-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S4096x32 : Shape := ⟨2, ![4096, 32]⟩
abbrev S4x512x32 : Shape := ⟨3, ![4, 512, 32]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S4x512x32 : S_.BroadcastsInDim S4x512x32 (![] : Fin 0 → Fin S4x512x32.rank)
  reducesTo_S4x512x32_S_d0_1_2 : S4x512x32.ReducesTo [0, 1, 2] S_

variable [Facts]

def fn {F : FTy → Type} [FloatOps F] (main_arg0 : FVec F S4096x32 .f32) (main_arg1 : FVec F S4x512x32 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S4x512x32 .f32 := Host.absf main_arg1
  let main_cst_0 : FVec F S_ .f32 := constant S_ .f32 0x7F800000#32
  let main_v5 : FVec F S4x512x32 .f32 := broadcastInDim S4x512x32 ![] bcast_S_S4x512x32 main_cst_0
  let main_v6 : IVec S4x512x32 1 := cmpf .olt main_v4 main_v5
  let main_c_1 : IVec S_ 1 := constantI S_ 1 1#1
  let main_v7 : IVec S_ 1 := (fun x v => Host.reduce IntOp.andi x v reducesTo_S4x512x32_S_d0_1_2 h_S_) main_v6 main_c_1
  let main_v8 : IVec S_ 1 := andi main_v3 main_v7
  main_v8
-- ==== Kernel.lean ====
abbrev S4096x32 : Shape := ⟨2, ![4096, 32]⟩
abbrev S4x512x32 : Shape := ⟨3, ![4, 512, 32]⟩
abbrev S4x512x96 : Shape := ⟨3, ![4, 512, 96]⟩
abbrev S4x32x512 : Shape := ⟨3, ![4, 32, 512]⟩
abbrev S_ : Shape := ⟨0, ![]⟩
abbrev S4x192x512 : Shape := ⟨3, ![4, 192, 512]⟩
abbrev S4x512 : Shape := ⟨2, ![4, 512]⟩
abbrev S4x1x512 : Shape := ⟨3, ![4, 1, 512]⟩
abbrev S4x4096x32 : Shape := ⟨3, ![4, 4096, 32]⟩
abbrev S1 : Shape := ⟨1, ![1]⟩
abbrev S1x512x96 : Shape := ⟨3, ![1, 512, 96]⟩
abbrev S512x96 : Shape := ⟨2, ![512, 96]⟩
abbrev S1x192x512 : Shape := ⟨3, ![1, 192, 512]⟩
abbrev S192x512 : Shape := ⟨2, ![192, 512]⟩
abbrev S1x1x512 : Shape := ⟨3, ![1, 1, 512]⟩
abbrev S1x512 : Shape := ⟨2, ![1, 512]⟩
abbrev S4096x192 : Shape := ⟨2, ![4096, 192]⟩
abbrev S4096x512 : Shape := ⟨2, ![4096, 512]⟩
abbrev S4096 : Shape := ⟨1, ![4096]⟩
abbrev S4096x1 : Shape := ⟨2, ![4096, 1]⟩
abbrev S4096x96 : Shape := ⟨2, ![4096, 96]⟩
abbrev S1x4096x32 : Shape := ⟨3, ![1, 4096, 32]⟩
abbrev S1x1x1 : Shape := ⟨3, ![1, 1, 1]⟩

abbrev nBuf : Space → Nat
  | .hbm => 33
  | .vmem => 6
  | .smem => 1
  | _ => 0

abbrev bufTy : (tb : Table) → Fin (tcTables nBuf tb) → BufTy
  | .hbm, ⟨0, _⟩ => ⟨S4096x32, .f32⟩
  | .hbm, ⟨1, _⟩ => ⟨S4x512x32, .f32⟩
  | .hbm, ⟨2, _⟩ => ⟨S4x512x32, .bf16⟩
  | .hbm, ⟨3, _⟩ => ⟨S4x512x32, .f32⟩
  | .hbm, ⟨4, _⟩ => ⟨S4x512x32, .f32⟩
  | .hbm, ⟨5, _⟩ => ⟨S4x512x32, .bf16⟩
  | .hbm, ⟨6, _⟩ => ⟨S4x512x32, .f32⟩
  | .hbm, ⟨7, _⟩ => ⟨S4x512x32, .f32⟩
  | .hbm, ⟨8, _⟩ => ⟨S4x512x32, .bf16⟩
  | .hbm, ⟨9, _⟩ => ⟨S4x512x96, .bf16⟩
  | .hbm, ⟨10, _⟩ => ⟨S4x32x512, .f32⟩
  | .hbm, ⟨11, _⟩ => ⟨S_, .f32⟩
  | .hbm, ⟨12, _⟩ => ⟨S4x32x512, .f32⟩
  | .hbm, ⟨13, _⟩ => ⟨S4x32x512, .f32⟩
  | .hbm, ⟨14, _⟩ => ⟨S4x32x512, .bf16⟩
  | .hbm, ⟨15, _⟩ => ⟨S4x32x512, .f32⟩
  | .hbm, ⟨16, _⟩ => ⟨S4x32x512, .f32⟩
  | .hbm, ⟨17, _⟩ => ⟨S4x32x512, .bf16⟩
  | .hbm, ⟨18, _⟩ => ⟨S4x32x512, .f32⟩
  | .hbm, ⟨19, _⟩ => ⟨S4x32x512, .f32⟩
  | .hbm, ⟨20, _⟩ => ⟨S4x32x512, .bf16⟩
  | .hbm, ⟨21, _⟩ => ⟨S4x192x512, .bf16⟩
  | .hbm, ⟨22, _⟩ => ⟨S4x32x512, .f32⟩
  | .hbm, ⟨23, _⟩ => ⟨S4x32x512, .f32⟩
  | .hbm, ⟨24, _⟩ => ⟨S_, .f32⟩
  | .hbm, ⟨25, _⟩ => ⟨S4x512, .f32⟩
  | .hbm, ⟨26, _⟩ => ⟨S4x1x512, .f32⟩
  | .hbm, ⟨27, _⟩ => ⟨S4096x32, .f32⟩
  | .hbm, ⟨28, _⟩ => ⟨S4x4096x32, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S4096x32, .f32⟩
  | .local _ .vmem, ⟨1, _⟩ => ⟨S4x512x96, .bf16⟩
  | .local _ .vmem, ⟨2, _⟩ => ⟨S4x192x512, .bf16⟩
  | .local _ .vmem, ⟨3, _⟩ => ⟨S4x1x512, .f32⟩
  | .local _ .vmem, ⟨4, _⟩ => ⟨S4096x32, .f32⟩
  | .local _ .vmem, ⟨5, _⟩ => ⟨S4x4096x32, .f32⟩
  | .local _ .smem, ⟨0, _⟩ => ⟨S1, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_cst : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_v17 : Ref sig .tc := ⟨.hbm, 20, rfl⟩
abbrev main_call0_v18 : Ref sig .tc := ⟨.hbm, 21, rfl⟩
abbrev main_call0_v19 : Ref sig .tc := ⟨.hbm, 22, rfl⟩
abbrev main_call0_v20 : Ref sig .tc := ⟨.hbm, 23, rfl⟩
abbrev main_call0_cst_0 : Ref sig .tc := ⟨.hbm, 24, rfl⟩
abbrev main_call0_v21 : Ref sig .tc := ⟨.hbm, 25, rfl⟩
abbrev main_call0_v22 : Ref sig .tc := ⟨.hbm, 26, rfl⟩
abbrev main_v0_0 : Ref sig .tc := ⟨.hbm, 27, rfl⟩
abbrev main_v0_1 : Ref sig .tc := ⟨.hbm, 28, rfl⟩
abbrev main_call0_v23_2 : Ref sig .tc := ⟨.hbm, 29, rfl⟩
abbrev main_call0_v24 : Ref sig .tc := ⟨.hbm, 30, rfl⟩
abbrev main_call0_cst_1 : Ref sig .tc := ⟨.hbm, 31, rfl⟩
abbrev main_v0_2 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x32 : Shape := ⟨2, ![4096, 32]⟩
abbrev S4x512x32 : Shape := ⟨3, ![4, 512, 32]⟩
abbrev S1x512x32 : Shape := ⟨3, ![1, 512, 32]⟩
abbrev S512x32 : Shape := ⟨2, ![512, 32]⟩
abbrev S4096x1x32 : Shape := ⟨3, ![4096, 1, 32]⟩
abbrev S4096x512x32 : Shape := ⟨3, ![4096, 512, 32]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x4096x32 : Shape := ⟨3, ![1, 4096, 32]⟩
abbrev S4x4096x32 : Shape := ⟨3, ![4, 4096, 32]⟩

abbrev nBuf : Space → Nat
  | .hbm => 190
  | .vmem => 0
  | .smem => 0
  | _ => 0

abbrev hbmTy0_0 (i : Nat) : BufTy := match i % 128 with
  | 0 => ⟨S4096x32, .f32⟩
  | 1 => ⟨S4x512x32, .f32⟩
  | 2 => ⟨S1x512x32, .f32⟩
  | 3 => ⟨S512x32, .f32⟩
  | 4 => ⟨S4096x1x32, .f32⟩
  | 5 => ⟨S1x512x32, .f32⟩
  | 6 => ⟨S4096x512x32, .f32⟩
  | 7 => ⟨S4096x512x32, .f32⟩
  | 8 => ⟨S4096x512x32, .f32⟩
  | 9 => ⟨S4096x512x32, .f32⟩
  | 10 => ⟨S_, .f32⟩
  | 11 => ⟨S4096x512, .f32⟩
  | 12 => ⟨S4096x512, .i32⟩
  | 13 => ⟨S_, .f32⟩
  | 14 => ⟨S_, .i32⟩
  | 15 => ⟨S4096, .f32⟩
  | 16 => ⟨S4096, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S1, .i32⟩
  | 26 => ⟨S_, .i32⟩
  | 27 => ⟨S4096x1, .i32⟩
  | 28 => ⟨S4096x1, .i1⟩
  | 29 => ⟨S1x1, .i32⟩
  | 30 => ⟨S4096x1, .i32⟩
  | 31 => ⟨S4096x1, .i1⟩
  | 32 => ⟨S4096x1, .i1⟩
  | 33 => ⟨S_, .i1⟩
  | 34 => ⟨S4096, .i1⟩
  | 35 => ⟨S4096x32, .f32⟩
  | 36 => ⟨S4096x32, .i1⟩
  | 37 => ⟨S_, .f32⟩
  | 38 => ⟨S4096x32, .f32⟩
  | 39 => ⟨S4096x32, .f32⟩
  | 40 => ⟨S4096x32, .f32⟩
  | 41 => ⟨S4096x32, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1x512x32, .f32⟩
  | 49 => ⟨S512x32, .f32⟩
  | 50 => ⟨S4096x1x32, .f32⟩
  | 51 => ⟨S1x512x32, .f32⟩
  | 52 => ⟨S4096x512x32, .f32⟩
  | 53 => ⟨S4096x512x32, .f32⟩
  | 54 => ⟨S4096x512x32, .f32⟩
  | 55 => ⟨S4096x512x32, .f32⟩
  | 56 => ⟨S_, .f32⟩
  | 57 => ⟨S4096x512, .f32⟩
  | 58 => ⟨S4096x512, .i32⟩
  | 59 => ⟨S_, .f32⟩
  | 60 => ⟨S_, .i32⟩
  | 61 => ⟨S4096, .f32⟩
  | 62 => ⟨S4096, .i32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S1, .i32⟩
  | 72 => ⟨S_, .i32⟩
  | 73 => ⟨S4096x1, .i32⟩
  | 74 => ⟨S4096x1, .i1⟩
  | 75 => ⟨S1x1, .i32⟩
  | 76 => ⟨S4096x1, .i32⟩
  | 77 => ⟨S4096x1, .i1⟩
  | 78 => ⟨S4096x1, .i1⟩
  | 79 => ⟨S_, .i1⟩
  | 80 => ⟨S4096, .i1⟩
  | 81 => ⟨S4096x32, .f32⟩
  | 82 => ⟨S4096x32, .i1⟩
  | 83 => ⟨S_, .f32⟩
  | 84 => ⟨S4096x32, .f32⟩
  | 85 => ⟨S4096x32, .f32⟩
  | 86 => ⟨S4096x32, .f32⟩
  | 87 => ⟨S4096x32, .f32⟩
  | 88 => ⟨S_, .f32⟩
  | 89 => ⟨S_, .f32⟩
  | 90 => ⟨S_, .f32⟩
  | 91 => ⟨S_, .f32⟩
  | 92 => ⟨S_, .f32⟩
  | 93 => ⟨S1x512x32, .f32⟩
  | 94 => ⟨S512x32, .f32⟩
  | 95 => ⟨S4096x1x32, .f32⟩
  | 96 => ⟨S1x512x32, .f32⟩
  | 97 => ⟨S4096x512x32, .f32⟩
  | 98 => ⟨S4096x512x32, .f32⟩
  | 99 => ⟨S4096x512x32, .f32⟩
  | 100 => ⟨S4096x512x32, .f32⟩
  | 101 => ⟨S_, .f32⟩
  | 102 => ⟨S4096x512, .f32⟩
  | 103 => ⟨S4096x512, .i32⟩
  | 104 => ⟨S_, .f32⟩
  | 105 => ⟨S_, .i32⟩
  | 106 => ⟨S4096, .f32⟩
  | 107 => ⟨S4096, .i32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S1, .i32⟩
  | 117 => ⟨S_, .i32⟩
  | 118 => ⟨S4096x1, .i32⟩
  | 119 => ⟨S4096x1, .i1⟩
  | 120 => ⟨S1x1, .i32⟩
  | 121 => ⟨S4096x1, .i32⟩
  | 122 => ⟨S4096x1, .i1⟩
  | 123 => ⟨S4096x1, .i1⟩
  | 124 => ⟨S_, .i1⟩
  | 125 => ⟨S4096, .i1⟩
  | 126 => ⟨S4096x32, .f32⟩
  | 127 => ⟨S4096x32, .i1⟩
  | _ => ⟨S4096x32, .f32⟩

abbrev hbmTy0_1 (i : Nat) : BufTy := match i % 128 with
  | 0 => ⟨S_, .f32⟩
  | 1 => ⟨S4096x32, .f32⟩
  | 2 => ⟨S4096x32, .f32⟩
  | 3 => ⟨S4096x32, .f32⟩
  | 4 => ⟨S4096x32, .f32⟩
  | 5 => ⟨S_, .f32⟩
  | 6 => ⟨S_, .f32⟩
  | 7 => ⟨S_, .f32⟩
  | 8 => ⟨S_, .f32⟩
  | 9 => ⟨S_, .f32⟩
  | 10 => ⟨S1x512x32, .f32⟩
  | 11 => ⟨S512x32, .f32⟩
  | 12 => ⟨S4096x1x32, .f32⟩
  | 13 => ⟨S1x512x32, .f32⟩
  | 14 => ⟨S4096x512x32, .f32⟩
  | 15 => ⟨S4096x512x32, .f32⟩
  | 16 => ⟨S4096x512x32, .f32⟩
  | 17 => ⟨S4096x512x32, .f32⟩
  | 18 => ⟨S_, .f32⟩
  | 19 => ⟨S4096x512, .f32⟩
  | 20 => ⟨S4096x512, .i32⟩
  | 21 => ⟨S_, .f32⟩
  | 22 => ⟨S_, .i32⟩
  | 23 => ⟨S4096, .f32⟩
  | 24 => ⟨S4096, .i32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S1, .i32⟩
  | 34 => ⟨S_, .i32⟩
  | 35 => ⟨S4096x1, .i32⟩
  | 36 => ⟨S4096x1, .i1⟩
  | 37 => ⟨S1x1, .i32⟩
  | 38 => ⟨S4096x1, .i32⟩
  | 39 => ⟨S4096x1, .i1⟩
  | 40 => ⟨S4096x1, .i1⟩
  | 41 => ⟨S_, .i1⟩
  | 42 => ⟨S4096, .i1⟩
  | 43 => ⟨S4096x32, .f32⟩
  | 44 => ⟨S4096x32, .i1⟩
  | 45 => ⟨S_, .f32⟩
  | 46 => ⟨S4096x32, .f32⟩
  | 47 => ⟨S4096x32, .f32⟩
  | 48 => ⟨S4096x32, .f32⟩
  | 49 => ⟨S4096x32, .f32⟩
  | 50 => ⟨S_, .f32⟩
  | 51 => ⟨S_, .f32⟩
  | 52 => ⟨S_, .f32⟩
  | 53 => ⟨S_, .f32⟩
  | 54 => ⟨S_, .f32⟩
  | 55 => ⟨S1x4096x32, .f32⟩
  | 56 => ⟨S1x4096x32, .f32⟩
  | 57 => ⟨S1x4096x32, .f32⟩
  | 58 => ⟨S1x4096x32, .f32⟩
  | 59 => ⟨S4x4096x32, .f32⟩
  | 60 => ⟨S_, .f32⟩
  | 61 => ⟨S4096x32, .f32⟩
  | _ => ⟨S4096x32, .f32⟩

abbrev hbmTy (i : Nat) : BufTy := match i / 128 with
  | 0 => hbmTy0_0 i
  | 1 => hbmTy0_1 i
  | _ => ⟨S4096x32, .f32⟩

abbrev bufTy : (tb : Table) → Fin (tcTables nBuf tb) → BufTy
  | .hbm, ⟨i, _⟩ => hbmTy i
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v9 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_0 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_call2_v0 : Ref sig .tc := ⟨.hbm, 58, rfl⟩
abbrev main_call2_cst : Ref sig .tc := ⟨.hbm, 59, rfl⟩
abbrev main_call2_c : Ref sig .tc := ⟨.hbm, 60, rfl⟩
abbrev main_call2_v1_0 : Ref sig .tc := ⟨.hbm, 61, rfl⟩
abbrev main_v25 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_4 : Ref sig .tc := ⟨.hbm, 88, rfl⟩
abbrev main_v29 : Ref sig .tc := ⟨.hbm, 89, rfl⟩
abbrev main_cst_5 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_cst_6 : Ref sig .tc := ⟨.hbm, 101, rfl⟩
abbrev main_v40 : Ref sig .tc := ⟨.hbm, 102, rfl⟩
abbrev main_call4_v0 : Ref sig .tc := ⟨.hbm, 103, rfl⟩
abbrev main_call4_cst : Ref sig .tc := ⟨.hbm, 104, rfl⟩
abbrev main_call4_c : Ref sig .tc := ⟨.hbm, 105, rfl⟩
abbrev main_call4_v1_0 : Ref sig .tc := ⟨.hbm, 106, rfl⟩
abbrev main_v41 : Ref sig .tc := ⟨.hbm, 107, rfl⟩
abbrev main_call5_c : Ref sig .tc := ⟨.hbm, 108, rfl⟩
abbrev main_call5_v0 : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_c_1 : Ref sig .tc := ⟨.hbm, 116, rfl⟩
abbrev main_call5_c_2 : Ref sig .tc := ⟨.hbm, 117, rfl⟩
abbrev main_call5_v6 : Ref sig .tc := ⟨.hbm, 118, rfl⟩
abbrev main_call5_v7 : Ref sig .tc := ⟨.hbm, 119, rfl⟩
abbrev main_call5_v8 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_c_3 : Ref sig .tc := ⟨.hbm, 124, rfl⟩
abbrev main_call5_v12 : Ref sig .tc := ⟨.hbm, 125, rfl⟩
abbrev main_call5_v13 : Ref sig .tc := ⟨.hbm, 126, rfl⟩
abbrev main_call5_v14 : Ref sig .tc := ⟨.hbm, 127, rfl⟩
abbrev main_call5_cst : Ref sig .tc := ⟨.hbm, 128, rfl⟩
abbrev main_call5_v15 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_cst_7 : Ref sig .tc := ⟨.hbm, 133, rfl⟩
abbrev main_v45 : Ref sig .tc := ⟨.hbm, 134, rfl⟩
abbrev main_cst_8 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_cst_9 : Ref sig .tc := ⟨.hbm, 146, rfl⟩
abbrev main_v56 : Ref sig .tc := ⟨.hbm, 147, rfl⟩
abbrev main_call6_v0 : Ref sig .tc := ⟨.hbm, 148, rfl⟩
abbrev main_call6_cst : Ref sig .tc := ⟨.hbm, 149, rfl⟩
abbrev main_call6_c : Ref sig .tc := ⟨.hbm, 150, rfl⟩
abbrev main_call6_v1_0 : Ref sig .tc := ⟨.hbm, 151, rfl⟩
abbrev main_v57 : Ref sig .tc := ⟨.hbm, 152, rfl⟩
abbrev main_call7_c : Ref sig .tc := ⟨.hbm, 153, rfl⟩
abbrev main_call7_v0 : Ref sig .tc := ⟨.hbm, 154, rfl⟩
abbrev main_call7_v1 : Ref sig .tc := ⟨.hbm, 155, rfl⟩
abbrev main_call7_c_0 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_v5 : Ref sig .tc := ⟨.hbm, 160, rfl⟩
abbrev main_call7_c_1 : Ref sig .tc := ⟨.hbm, 161, rfl⟩
abbrev main_call7_c_2 : Ref sig .tc := ⟨.hbm, 162, rfl⟩
abbrev main_call7_v6 : Ref sig .tc := ⟨.hbm, 163, rfl⟩
abbrev main_call7_v7 : Ref sig .tc := ⟨.hbm, 164, rfl⟩
abbrev main_call7_v8 : Ref sig .tc := ⟨.hbm, 165, rfl⟩
abbrev main_call7_v9 : Ref sig .tc := ⟨.hbm, 166, rfl⟩
abbrev main_call7_v10 : Ref sig .tc := ⟨.hbm, 167, rfl⟩
abbrev main_call7_v11 : Ref sig .tc := ⟨.hbm, 168, rfl⟩
abbrev main_call7_c_3 : Ref sig .tc := ⟨.hbm, 169, rfl⟩
abbrev main_call7_v12 : Ref sig .tc := ⟨.hbm, 170, rfl⟩
abbrev main_call7_v13 : Ref sig .tc := ⟨.hbm, 171, rfl⟩
abbrev main_call7_v14 : Ref sig .tc := ⟨.hbm, 172, rfl⟩
abbrev main_call7_cst : Ref sig .tc := ⟨.hbm, 173, rfl⟩
abbrev main_call7_v15 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_cst_10 : Ref sig .tc := ⟨.hbm, 178, rfl⟩
abbrev main_v61 : Ref sig .tc := ⟨.hbm, 179, rfl⟩
abbrev main_cst_11 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_cst_12 : Ref sig .tc := ⟨.hbm, 188, rfl⟩
abbrev main_v69 : Ref sig .tc := ⟨.hbm, 189, rfl⟩

abbrev nD : Nat := 1
abbrev τ : Topo := Topo.v7x

variable {F : FTy → Type} [FloatOps F]
-- ==== Proof.Nearest.lean ====
/- The first position of a least value, and the two ways in which the kernel and the reference find
   it: a minimum followed by a search for the first equal entry, and a fold over (value, position)
   pairs. Nothing here is about a particular program. -/
module

public import Idealize.ShloMosaic.Lib.Pointwise
public import Idealize.ShloMosaic.Lib.WordArith

@[expose] public section

set_option maxRecDepth 16384

noncomputable section

namespace Cert.Proof

open Idealize.ShloMosaic

/-- `i` is the first position at which `f` is least. -/
def IsFirst (f : Fin 512 → EReal) (i : Fin 512) : Prop :=
  (∀ k, f i ≤ f k) ∧ ∀ k, f k = f i → i ≤ k

/-- Every row of 512 extended reals has a first least position. -/
theorem exists_isFirst (f : Fin 512 → EReal) : ∃ i, IsFirst f i := by
  obtain ⟨m, hm⟩ := Finite.exists_min f
  have hne : (Finset.univ.filter fun k => f k = f m).Nonempty := ⟨m, by simp⟩
  refine ⟨(Finset.univ.filter fun k => f k = f m).min' hne, ?_, ?_⟩
  · have h := Finset.min'_mem _ hne
    rw [Finset.mem_filter] at h
    intro k
    rw [h.2]
    exact hm k
  · have h := Finset.min'_mem _ hne
    rw [Finset.mem_filter] at h
    intro k hk
    exact Finset.min'_le _ _ (by simp [hk, h.2])

/-- The first position at which `f` is least. -/
def nearest (f : Fin 512 → EReal) : Fin 512 := Classical.choose (exists_isFirst f)

theorem isFirst_nearest (f : Fin 512 → EReal) : IsFirst f (nearest f) :=
  Classical.choose_spec (exists_isFirst f)

/-- Two rows ordered alike have the same first least position. -/
theorem nearest_congr {f g : Fin 512 → EReal} (h : ∀ k l, f k ≤ f l ↔ g k ≤ g l) :
    nearest f = nearest g := by
  have hf := isFirst_nearest f
  have hg := isFirst_nearest g
  have e : ∀ k l, f k = f l ↔ g k = g l := fun k l => by
    rw [le_antisymm_iff, le_antisymm_iff, h, h]
  apply le_antisymm
  · exact hf.2 _ (le_antisymm ((h _ _).2 (hg.1 _)) (hf.1 _))
  · exact hg.2 _ (le_antisymm ((h _ _).1 (hf.1 _)) (hg.1 _))

/-- The positive infinity that both programs start a minimum from. -/
theorem ofBits_top : Ideal.ofBits .f32 0x7F800000#32 = ⊤ := by simp [Ideal.ofBits, Ideal.ieee]

/-- The minimum of a row, started from the positive infinity, is its value at the first least
    position. -/
theorem fold_min_eq (f : Fin 512 → EReal) :
    Finset.fold min (Ideal.ofBits .f32 0x7F800000#32) f Finset.univ = f (nearest f) := by
  have h := isFirst_nearest f
  rw [ofBits_top]
  apply le_antisymm
  · exact (Finset.fold_min_le _).2 (.inr ⟨nearest f, Finset.mem_univ _, le_rfl⟩)
  · exact (Finset.le_fold_min _).2 ⟨le_top, fun k _ => h.1 k⟩

/-- A signed minimum of words that hold small naturals holds the naturals' minimum. -/
theorem fold_minsi_eq (g : Fin 512 → ℕ) (hg : ∀ k, g k < 2 ^ 31) (s : Finset (Fin 512)) :
    Finset.fold IntOp.minsi (2147483647#32) (fun k => BitVec.ofNat 32 (g k)) s
      = BitVec.ofNat 32 (Finset.fold min 2147483647 g s)
    ∧ Finset.fold min 2147483647 g s < 2 ^ 31 := by
  induction s using Finset.induction_on with
  | empty => simp
  | insert a s ha ih =>
    rw [Finset.fold_insert ha, Finset.fold_insert ha, ih.1]
    have h1 := hg a
    have h2 := ih.2
    refine ⟨?_, lt_of_le_of_lt (min_le_right _ _) h2⟩
    have t1 : (BitVec.ofNat 32 (g a)).toNat = g a := by rw [BitVec.toNat_ofNat]; omega
    have t2 : (BitVec.ofNat 32 (Finset.fold min 2147483647 g s)).toNat = Finset.fold min 2147483647 g s := by
      rw [BitVec.toNat_ofNat]; omega
    apply BitVec.eq_of_toNat_eq
    rw [WordArith.toNat_minsi_of_lt _ _ (by omega) (by omega), t1, t2, BitVec.toNat_ofNat]
    have : min (g a) (Finset.fold min 2147483647 g s) < 2 ^ 31 := lt_of_le_of_lt (min_le_right _ _) h2
    omega

/-- The signed minimum of the positions that hold the row's least value, every other position
    counting as 512, is the first least position. -/
theorem fold_position_eq (f : Fin 512 → EReal) :
    Finset.fold IntOp.minsi (2147483647#32)
        (fun k : Fin 512 => if f k = f (nearest f) then BitVec.ofNat 32 ↑k else 512#32) Finset.univ
      = BitVec.ofNat 32 ↑(nearest f) := by
  have h := isFirst_nearest f
  have e : (fun k : Fin 512 => if f k = f (nearest f) then BitVec.ofNat 32 ↑k else 512#32)
      = fun k => BitVec.ofNat 32 (if f k = f (nearest f) then (k : ℕ) else 512) := by
    funext k; split <;> rfl
  rw [e, (fold_minsi_eq _ (fun k => ?_) _).1]
  · congr 1
    apply le_antisymm
    · exact (Finset.fold_min_le _).2 (.inr ⟨nearest f, Finset.mem_univ _, by simp⟩)
    · refine (Finset.le_fold_min _).2 ⟨by omega, fun k _ => ?_⟩
      split
      · next hk => exact h.2 k hk
      · omega
  · split <;> omega

/-- A row of one-hot factors picks one entry: the sum over all positions of the entry times one
    where the position is `i` and times zero elsewhere. -/
theorem sum_oneHot (i : Fin 512) (v : Fin 512 → EReal) :
    ∑ k : Fin 512, (FloatOps.sitofp (F := Ideal) .f32
        (BitVec.setWidth 32 (IntOp.cmpi CmpIPredicate.eq (BitVec.ofNat 32 ↑k) (BitVec.ofNat 32 ↑i))) : EReal) * v k
      = v i := by
  have e : ∀ k : Fin 512, (FloatOps.sitofp (F := Ideal) .f32
        (BitVec.setWidth 32 (IntOp.cmpi CmpIPredicate.eq (BitVec.ofNat 32 ↑k) (BitVec.ofNat 32 ↑i))) : EReal)
      = if k = i then 1 else 0 := by
    intro k
    have hk : (BitVec.ofNat 32 (k : ℕ) = BitVec.ofNat 32 (i : ℕ)) ↔ k = i := by
      constructor
      · intro h
        have h := congrArg BitVec.toNat h
        rw [BitVec.toNat_ofNat, BitVec.toNat_ofNat] at h
        apply Fin.ext
        omega
      · rintro rfl; rfl
    show (((BitVec.setWidth 32 (IntOp.cmpi CmpIPredicate.eq _ _)).toInt : ℝ) : EReal) = _
    by_cases h : k = i
    · subst h; simp [IntOp.cmpi]
    · have h' := mt hk.1 h
      have hb : (BitVec.ofNat 32 (k : ℕ) == BitVec.ofNat 32 (i : ℕ)) = false := beq_eq_false_iff_ne.2 h'
      simp [IntOp.cmpi, h, hb]
  simp only [e]
  rw [Finset.sum_eq_single i]
  · simp
  · intro k _ hk; simp [hk]
  · simp

end Cert.Proof
-- ==== Proof.KernelStep.lean ====
/- One level of the kernel's body, read down to arithmetic: the score of every code vector, the
   position of the least score, and the row taken there; then the same over real entries, where the
   row is the nearest code vector. -/
module

public import proofs.«01_k».proof.Proof.Gen.KernelIdeal.Skeleton
public import proofs.«01_k».proof.Proof.Nearest

@[expose] public section

set_option maxRecDepth 16384

noncomputable section

namespace Cert.Proof

open Idealize.ShloMosaic Cert.KernelIdeal Cert.KernelIdeal.Gen

/-- A residual row laid out six times over, as the kernel's product takes it: whole, whole, its first
    remainder, whole, its second remainder, its first remainder. -/
def part (r : FVec Ideal S4096x32 .f32) (p : Fin 4096) (j : Fin 192) : EReal :=
  if h : (j : ℕ) < 32 then r (ix2 p ⟨j, h⟩)
  else if h : (j : ℕ) - 32 < 32 then r (ix2 p ⟨(j : ℕ) - 32, h⟩)
  else if h : (j : ℕ) - 32 - 32 < 32 then
    r (ix2 p ⟨(j : ℕ) - 32 - 32, h⟩) - r (ix2 p ⟨(j : ℕ) - 32 - 32, h⟩)
  else if h : (j : ℕ) - 32 - 32 - 32 < 32 then r (ix2 p ⟨(j : ℕ) - 32 - 32 - 32, h⟩)
  else if h : (j : ℕ) - 32 - 32 - 32 - 32 < 32 then
    r (ix2 p ⟨(j : ℕ) - 32 - 32 - 32 - 32, h⟩) - r (ix2 p ⟨(j : ℕ) - 32 - 32 - 32 - 32, h⟩)
      - (r (ix2 p ⟨(j : ℕ) - 32 - 32 - 32 - 32, h⟩) - r (ix2 p ⟨(j : ℕ) - 32 - 32 - 32 - 32, h⟩))
  else r (ix2 p ⟨(j : ℕ) - 32 - 32 - 32 - 32 - 32, by omega⟩) - r (ix2 p ⟨(j : ℕ) - 32 - 32 - 32 - 32 - 32, by omega⟩)

/-- The kernel's score of a code vector for a residual row: its square norm and the product. -/
def score (r : FVec Ideal S4096x32 .f32) (b : Vec Ideal S1x192x512 .bf16) (n : Vec Ideal S1x1x512 .f32)
    (p : Fin 4096) (k : Fin 512) : EReal :=
  n (ix3 0 0 k) + ∑ j : Fin 192, part r p j * b (ix3 0 j k)

/-- The row a level's body takes: the three summands of the code vector with the least score. -/
theorem chosen_apply (r : FVec Ideal S4096x32 .f32) (a : Vec Ideal S1x512x96 .bf16) (b : Vec Ideal S1x192x512 .bf16)
    (n : Vec Ideal S1x1x512 .f32) (p : Fin 4096) (d : Fin 32) :
    k0_pay6 r a b n (ix2 p d)
      = a (ix3 0 (nearest (score r b n p)) ⟨(d : ℕ), by omega⟩)
        + a (ix3 0 (nearest (score r b n p)) ⟨32 + (d : ℕ), by omega⟩)
        + a (ix3 0 (nearest (score r b n p)) ⟨64 + (d : ℕ), by omega⟩) := by
  have hp : Finset.fold IntOp.minsi 2147483647#32
      (fun k : Fin 512 => if score r b n p k
          = Finset.fold min (Ideal.ofBits .f32 0x7F800000#32) (score r b n p) Finset.univ
        then BitVec.ofNat 32 ↑k else 512#32) Finset.univ = BitVec.ofNat 32 ↑(nearest (score r b n p)) := by
    rw [fold_min_eq]; exact fold_position_eq _
  rw [← sum_oneHot (nearest (score r b n p)) fun k => a (ix3 0 k ⟨(d : ℕ), by omega⟩),
    ← sum_oneHot (nearest (score r b n p)) fun k => a (ix3 0 k ⟨32 + (d : ℕ), by omega⟩),
    ← sum_oneHot (nearest (score r b n p)) fun k => a (ix3 0 k ⟨64 + (d : ℕ), by omega⟩), ← hp]
  pointwise [k0_pay6]
  rfl

/-- A sum over the 192 columns, block by block. -/
theorem sum_blocks (g : Fin 192 → EReal) :
    ∑ j : Fin 192, g j = ∑ e : Fin 6, ∑ d : Fin 32, g ⟨32 * (e : ℕ) + (d : ℕ), by omega⟩ := by
  rw [← Fintype.sum_prod_type' fun (e : Fin 6) (d : Fin 32) => g ⟨32 * (e : ℕ) + (d : ℕ), by omega⟩]
  refine (Fintype.sum_equiv (finProdFinEquiv (m := 6) (n := 32)) _ _ fun x => ?_).symm
  congr 1
  exact Fin.ext (Nat.add_comm _ _)

/-- The shape of one level's code vectors. -/
abbrev Codes : Shape := ⟨2, ![512, 32]⟩

/-- What a level's body is given of the level's code vectors `c`: their three summands side by side
    (`a`), minus twice their transpose in six blocks (`b`), and their square norms (`n`). -/
structure Holds (c : FVec Ideal Codes .f32) (a : Vec Ideal S1x512x96 .bf16) (b : Vec Ideal S1x192x512 .bf16)
    (n : Vec Ideal S1x1x512 .f32) : Prop where
  a0 : ∀ (k : Fin 512) (d : Fin 32), a (ix3 0 k ⟨(d : ℕ), by omega⟩) = c (ix2 k d)
  a1 : ∀ (k : Fin 512) (d : Fin 32), a (ix3 0 k ⟨32 + (d : ℕ), by omega⟩) = 0
  a2 : ∀ (k : Fin 512) (d : Fin 32), a (ix3 0 k ⟨64 + (d : ℕ), by omega⟩) = 0
  b0 : ∀ (k : Fin 512) (d : Fin 32), b (ix3 0 ⟨32 * 0 + (d : ℕ), by omega⟩ k) = c (ix2 k d) * ((-2 : ℝ) : EReal)
  b1 : ∀ (k : Fin 512) (d : Fin 32), b (ix3 0 ⟨32 * 1 + (d : ℕ), by omega⟩ k) = 0
  b3 : ∀ (k : Fin 512) (d : Fin 32), b (ix3 0 ⟨32 * 3 + (d : ℕ), by omega⟩ k) = 0
  n0 : ∀ k : Fin 512, n (ix3 0 0 k) = ∑ d : Fin 32, c (ix2 k d) * c (ix2 k d)

/-- The squared distance of a residual row from a code vector. -/
def dist (r : FVec Ideal S4096x32 .f32) (c : FVec Ideal Codes .f32) (p : Fin 4096) (k : Fin 512) : EReal :=
  ∑ d : Fin 32, (r (ix2 p d) - c (ix2 k d)) * (r (ix2 p d) - c (ix2 k d))

/-- The nearest code vector of every residual row: the first one at the least squared distance. -/
def chosenOf (r : FVec Ideal S4096x32 .f32) (c : FVec Ideal Codes .f32) : FVec Ideal S4096x32 .f32 :=
  fun j => c (ix2 (nearest (dist r c (j 0))) (j 1))

/-- Every entry is a real number. -/
def Finite {s : Shape} (x : s.Idx → EReal) : Prop := ∃ y : s.Idx → ℝ, ∀ i, x i = ((y i : ℝ) : EReal)

/-- A row of the laid-out residual, block by block: over real entries both remainders vanish. -/
theorem part_block {r : FVec Ideal S4096x32 .f32} (hr : Finite r) (p : Fin 4096) (d : Fin 32) :
    part r p ⟨32 * 0 + (d : ℕ), by omega⟩ = r (ix2 p d) ∧ part r p ⟨32 * 2 + (d : ℕ), by omega⟩ = 0
    ∧ part r p ⟨32 * 4 + (d : ℕ), by omega⟩ = 0 ∧ part r p ⟨32 * 5 + (d : ℕ), by omega⟩ = 0 := by
  obtain ⟨R, hR⟩ := hr
  have z : ∀ i, r i - r i = 0 := fun i => by rw [hR, ← EReal.coe_sub, sub_self, EReal.coe_zero]
  have z' : (0 : EReal) - 0 = 0 := by simp
  refine ⟨?_, ?_, ?_, ?_⟩ <;> unfold part
  · rw [dif_pos (by simp)]
    congr 2
    exact Fin.ext (by simp)
  · rw [dif_neg (by simp only; omega), dif_neg (by simp only; omega), dif_pos (by simp only; omega), z]
  · rw [dif_neg (by simp only; omega), dif_neg (by simp only; omega), dif_neg (by simp only; omega), dif_neg (by simp only; omega),
      dif_pos (by simp only; omega), z, z']
  · rw [dif_neg (by simp only; omega), dif_neg (by simp only; omega), dif_neg (by simp only; omega), dif_neg (by simp only; omega),
      dif_neg (by simp only; omega), z]

/-- A finite sum of real numbers, taken among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert i s h ih => rw [Finset.sum_insert h, Finset.sum_insert h, ih, EReal.coe_add]

/-- Over real entries the score and the squared distance order the code vectors alike: they differ
    by the residual row's square norm. -/
theorem nearest_score {r : FVec Ideal S4096x32 .f32} {c : FVec Ideal Codes .f32} {a : Vec Ideal S1x512x96 .bf16}
    {b : Vec Ideal S1x192x512 .bf16} {n : Vec Ideal S1x1x512 .f32} (hr : Finite r) (hc : Finite c) (h : Holds c a b n)
    (p : Fin 4096) : nearest (score r b n p) = nearest (dist r c p) := by
  have hp := part_block hr p
  obtain ⟨R, hR⟩ := hr
  obtain ⟨C, hC⟩ := hc
  have hs : ∀ k, score r b n p k = ((∑ d : Fin 32, C (ix2 k d) * C (ix2 k d)
      + ∑ d : Fin 32, R (ix2 p d) * (C (ix2 k d) * (-2)) : ℝ) : EReal) := by
    intro k
    have e0 : ∀ d : Fin 32, part r p ⟨32 * 0 + (d : ℕ), by omega⟩ * b (ix3 0 ⟨32 * 0 + (d : ℕ), by omega⟩ k)
        = ((R (ix2 p d) * (C (ix2 k d) * (-2)) : ℝ) : EReal) := fun d => by
      rw [(hp d).1, h.b0, hR, hC, EReal.coe_mul, EReal.coe_mul]
    have e1 : ∀ d : Fin 32, part r p ⟨32 * 1 + (d : ℕ), by omega⟩ * b (ix3 0 ⟨32 * 1 + (d : ℕ), by omega⟩ k) = 0 :=
      fun d => by rw [h.b1, mul_zero]
    have e2 : ∀ d : Fin 32, part r p ⟨32 * 2 + (d : ℕ), by omega⟩ * b (ix3 0 ⟨32 * 2 + (d : ℕ), by omega⟩ k) = 0 :=
      fun d => by rw [(hp d).2.1, zero_mul]
    have e3 : ∀ d : Fin 32, part r p ⟨32 * 3 + (d : ℕ), by omega⟩ * b (ix3 0 ⟨32 * 3 + (d : ℕ), by omega⟩ k) = 0 :=
      fun d => by rw [h.b3, mul_zero]
    have e4 : ∀ d : Fin 32, part r p ⟨32 * 4 + (d : ℕ), by omega⟩ * b (ix3 0 ⟨32 * 4 + (d : ℕ), by omega⟩ k) = 0 :=
      fun d => by rw [(hp d).2.2.1, zero_mul]
    have e5 : ∀ d : Fin 32, part r p ⟨32 * 5 + (d : ℕ), by omega⟩ * b (ix3 0 ⟨32 * 5 + (d : ℕ), by omega⟩ k) = 0 :=
      fun d => by rw [(hp d).2.2.2, zero_mul]
    have eb : ∑ j : Fin 192, part r p j * b (ix3 0 j k) = ((∑ d : Fin 32, R (ix2 p d) * (C (ix2 k d) * (-2)) : ℝ) : EReal) := by
      rw [sum_blocks, Fin.sum_univ_six]
      refine Eq.trans (congr (congrArg _ (congr (congrArg _ (congr (congrArg _ (congr (congrArg _ (congr (congrArg _
        (Finset.sum_congr rfl fun d _ => e0 d)) (Finset.sum_congr rfl fun d _ => e1 d)))
        (Finset.sum_congr rfl fun d _ => e2 d))) (Finset.sum_congr rfl fun d _ => e3 d)))
        (Finset.sum_congr rfl fun d _ => e4 d))) (Finset.sum_congr rfl fun d _ => e5 d)) ?_
      rw [Finset.sum_const_zero, sum_coe]
      simp only [add_zero]
    rw [score, eb, h.n0, EReal.coe_add]
    congr 1
    rw [← sum_coe]
    exact Finset.sum_congr rfl fun d _ => by rw [hC, EReal.coe_mul]
  have hd : ∀ k, dist r c p k = ((∑ d : Fin 32, (R (ix2 p d) - C (ix2 k d)) * (R (ix2 p d) - C (ix2 k d)) : ℝ) : EReal) := by
    intro k
    rw [dist, ← sum_coe]
    exact Finset.sum_congr rfl fun d _ => by rw [hR, hC, EReal.coe_mul, EReal.coe_sub]
  have key : ∀ k, ∑ d : Fin 32, (R (ix2 p d) - C (ix2 k d)) * (R (ix2 p d) - C (ix2 k d))
      = (∑ d : Fin 32, C (ix2 k d) * C (ix2 k d) + ∑ d : Fin 32, R (ix2 p d) * (C (ix2 k d) * (-2)))
        + ∑ d : Fin 32, R (ix2 p d) * R (ix2 p d) := by
    intro k
    rw [← Finset.sum_add_distrib, ← Finset.sum_add_distrib]
    exact Finset.sum_congr rfl fun d _ => by ring
  refine nearest_congr fun k l => ?_
  rw [hs, hs, hd, hd, EReal.coe_le_coe_iff, EReal.coe_le_coe_iff, key, key]
  exact (add_le_add_iff_right _).symm

/-- Over real entries a level's body takes the nearest code vector of every residual row. -/
theorem chosen_eq {r : FVec Ideal S4096x32 .f32} {c : FVec Ideal Codes .f32} {a : Vec Ideal S1x512x96 .bf16}
    {b : Vec Ideal S1x192x512 .bf16} {n : Vec Ideal S1x1x512 .f32} (hr : Finite r) (hc : Finite c) (h : Holds c a b n) :
    k0_pay6 r a b n = chosenOf r c := by
  funext j
  obtain ⟨p, d, rfl⟩ : ∃ (p : Fin 4096) (d : Fin 32), j = ix2 p d := ⟨j 0, j 1, eq_ix2 j⟩
  rw [chosen_apply, h.a0, h.a1, h.a2, add_zero, add_zero, nearest_score hr hc h]
  rfl

/-- The nearest code vectors are real where the code vectors are. -/
theorem finite_chosenOf {r : FVec Ideal S4096x32 .f32} {c : FVec Ideal Codes .f32} (hc : Finite c) :
    Finite (chosenOf r c) :=
  hc.elim fun C hC => ⟨_, fun j => hC _⟩

/-- A difference of real entries is real. -/
theorem finite_sub {s : Shape} {x y : FVec Ideal s .f32} (hx : Finite x) (hy : Finite y) : Finite (subf x y) := by
  obtain ⟨X, hX⟩ := hx
  obtain ⟨Y, hY⟩ := hy
  exact ⟨fun i => X i - Y i, fun i => by rw [EReal.coe_sub, ← hX, ← hY]; rfl⟩

end Cert.Proof
-- ==== Proof.KernelRun.lean ====
/- What the kernel leaves in its three result blocks, in terms of the rows its four levels take. -/
module

public import proofs.«01_k».proof.Proof.Gen.KernelIdeal.Frame
public import proofs.«01_k».proof.Proof.KernelStep
public import Idealize.ShloMosaic.Lib.Pipeline.ValueKit

@[expose] public section

set_option maxRecDepth 16384

noncomputable section

namespace Cert.Proof

open Idealize.ShloMosaic Idealize.ShloMosaic.Pipeline Cert.KernelIdeal Cert.KernelIdeal.Gen
open Idealize.ShloMosaic.TcCoe Idealize.SL.Sem

/-- The residual a level leaves. -/
def left (r : FVec Ideal S4096x32 .f32) (c : FVec Ideal Codes .f32) : FVec Ideal S4096x32 .f32 :=
  subf r (chosenOf r c)

theorem finite_left {r : FVec Ideal S4096x32 .f32} {c : FVec Ideal Codes .f32} (hr : Finite r) (hc : Finite c) :
    Finite (left r c) := finite_sub hr (finite_chosenOf hc)

/-- The sum of a residual's squares, as the kernel takes it. -/
def squares (r : FVec Ideal S4096x32 .f32) : Ideal .f32 :=
  extractAt ![0, 0, 0] (shapeCast S1x1x1 (multiReduction .add [1, 2] S1
    (shapeCast S1x4096x32 (mulf r r) shapeCasts_S4096x32_S1x4096x32) 0x00000000#32
    reduces_S1x4096x32_S1 (.inl rfl) rfl) shapeCasts_S1_S1x1x1) inpos_S1x1x1_p0_0_0

section Fold

variable (x r q w : FVec Ideal S4096x32 .f32) (y : FVec Ideal S4096x96 .f32) (s u : Ideal .f32)
variable (a a' : Vec Ideal S1x512x96 .bf16) (b b' : Vec Ideal S1x192x512 .bf16) (n n' : Vec Ideal S1x1x512 .f32)

/-! The second, third and fourth levels run the first level's body on the residual left to them. -/

theorem chosen1 : k0_pay12 (k0_pay11 x q a b n) = k0_pay6 (subf x q) a b n := rfl
theorem chosen2 : k0_pay19 (k0_pay17 a) (iota .tc S4096x512 32 [1] iota_S4096x512_d1_w32) (k0_pay18 r y b n)
    = k0_pay6 (subf r (k0_pay12 y)) a b n := rfl
theorem chosen3 (v99 : FVec Ideal S512x96 .bf16) (v117 : IVec S4096x512 32) (v123 : IVec S4096x1 32) :
    k0_pay1 (k0_pay24 a) (k0_pay25 r v99 v117 v123 b n) (iota .tc S4096x512 32 [1] iota_S4096x512_d1_w32)
      (k0_pay26 r v99 v117 v123 b n) = k0_pay6 (subf r (k0_pay19 v99 v117 v123)) a b n := rfl
theorem left0 : k0_pay8 x q = subf x q := rfl
theorem left1 : k0_pay14 r y = subf r (k0_pay12 y) := rfl
theorem left2 (v99 : FVec Ideal S512x96 .bf16) (v117 : IVec S4096x512 32) (v123 : IVec S4096x1 32) :
    k0_pay21 r v99 v117 v123 = subf r (k0_pay19 v99 v117 v123) := rfl
theorem sum0 : k0_pay9 w q = addf w q := rfl
theorem sum1 : k0_pay15 w y = addf w (k0_pay12 y) := rfl
theorem sum2 (v99 : FVec Ideal S512x96 .bf16) (v117 : IVec S4096x512 32) (v123 : IVec S4096x1 32) :
    k0_pay22 w v99 v117 v123 = addf w (k0_pay19 v99 v117 v123) := rfl
theorem sum3 (v147 : FVec Ideal S512x96 .bf16) (v162 : FVec Ideal S4096x512 .f32) (v165 : IVec S4096x512 32)
    (v166 : FVec Ideal S4096x512 .f32) : k0_pay3 w v147 v162 v165 v166 = addf w (k0_pay1 v147 v162 v165 v166) := rfl
theorem row1 : k0_pay13 y = k0_pay7 (k0_pay12 y) := rfl
theorem row2 (v99 : FVec Ideal S512x96 .bf16) (v117 : IVec S4096x512 32) (v123 : IVec S4096x1 32) :
    k0_pay20 v99 v117 v123 = k0_pay7 (k0_pay19 v99 v117 v123) := rfl
theorem row3 (v147 : FVec Ideal S512x96 .bf16) (v162 : FVec Ideal S4096x512 .f32) (v165 : IVec S4096x512 32)
    (v166 : FVec Ideal S4096x512 .f32) : k0_pay2 v147 v162 v165 v166 = k0_pay7 (k0_pay1 v147 v162 v165 v166) := rfl
theorem loss0 : k0_pay10 x q = Scalar.addf (Scalar.ofBits .f32 0x00000000#32) (squares (subf x q)) := rfl
theorem loss1 : k0_pay16 r s y = Scalar.addf s (squares (subf r (k0_pay12 y))) := rfl
theorem loss2 (v99 : FVec Ideal S512x96 .bf16) (v117 : IVec S4096x512 32) (v123 : IVec S4096x1 32) :
    k0_pay23 r s v99 v117 v123 = Scalar.addf s (squares (subf r (k0_pay19 v99 v117 v123))) := rfl
theorem loss3 (v147 : FVec Ideal S512x96 .bf16) (v162 : FVec Ideal S4096x512 .f32) (v165 : IVec S4096x512 32)
    (v166 : FVec Ideal S4096x512 .f32) : k0_pay4 r s v147 v162 v165 v166 u
      = Scalar.addf u (Scalar.addf s (squares (subf r (k0_pay1 v147 v162 v165 v166)))) := rfl

end Fold

/-- What the body is given: finite inputs, and each level's code vectors prepared. -/
structure Given (x : Vec Ideal S4096x32 .f32) (a : Vec Ideal S4x512x96 .bf16) (b : Vec Ideal S4x192x512 .bf16)
    (n : Vec Ideal S4x1x512 .f32) (c0 c1 c2 c3 : FVec Ideal Codes .f32) : Prop where
  hx : Finite (s := S4096x32) x
  f0 : Finite c0
  f1 : Finite c1
  f2 : Finite c2
  f3 : Finite c3
  h0 : Holds c0 (View.ld a (Rect.unit ![0, 0, 0] ![1, 512, 96] inb_S4x512x96_S1x512x96_0_0_0))
    (View.ld b (Rect.unit ![0, 0, 0] ![1, 192, 512] inb_S4x192x512_S1x192x512_0_0_0))
    (View.ld n (Rect.unit ![0, 0, 0] ![1, 1, 512] inb_S4x1x512_S1x1x512_0_0_0))
  h1 : Holds c1 (View.ld a (Rect.unit ![1, 0, 0] ![1, 512, 96] inb_S4x512x96_S1x512x96_1_0_0))
    (View.ld b (Rect.unit ![1, 0, 0] ![1, 192, 512] inb_S4x192x512_S1x192x512_1_0_0))
    (View.ld n (Rect.unit ![1, 0, 0] ![1, 1, 512] inb_S4x1x512_S1x1x512_1_0_0))
  h2 : Holds c2 (View.ld a (Rect.unit ![2, 0, 0] ![1, 512, 96] inb_S4x512x96_S1x512x96_2_0_0))
    (View.ld b (Rect.unit ![2, 0, 0] ![1, 192, 512] inb_S4x192x512_S1x192x512_2_0_0))
    (View.ld n (Rect.unit ![2, 0, 0] ![1, 1, 512] inb_S4x1x512_S1x1x512_2_0_0))
  h3 : Holds c3 (View.ld a (Rect.unit ![3, 0, 0] ![1, 512, 96] inb_S4x512x96_S1x512x96_3_0_0))
    (View.ld b (Rect.unit ![3, 0, 0] ![1, 192, 512] inb_S4x192x512_S1x192x512_3_0_0))
    (View.ld n (Rect.unit ![3, 0, 0] ![1, 1, 512] inb_S4x1x512_S1x1x512_3_0_0))

section Given

variable {x : Vec Ideal S4096x32 .f32} {a : Vec Ideal S4x512x96 .bf16} {b : Vec Ideal S4x192x512 .bf16}
  {n : Vec Ideal S4x1x512 .f32} {c0 c1 c2 c3 : FVec Ideal Codes .f32} (G : Given x a b n c0 c1 c2 c3)
include G

/-- The rows the first level takes. -/
theorem Given.row0 : k0_pay6 x (View.ld a (Rect.unit ![0, 0, 0] ![1, 512, 96] inb_S4x512x96_S1x512x96_0_0_0))
    (View.ld b (Rect.unit ![0, 0, 0] ![1, 192, 512] inb_S4x192x512_S1x192x512_0_0_0))
    (View.ld n (Rect.unit ![0, 0, 0] ![1, 1, 512] inb_S4x1x512_S1x1x512_0_0_0)) = chosenOf x c0 :=
  chosen_eq G.hx G.f0 G.h0

/-- The rows the second level takes. -/
theorem Given.row1 : k0_pay6 (left x c0)
    (View.ld a (Rect.unit ![1, 0, 0] ![1, 512, 96] inb_S4x512x96_S1x512x96_1_0_0))
    (View.ld b (Rect.unit ![1, 0, 0] ![1, 192, 512] inb_S4x192x512_S1x192x512_1_0_0))
    (View.ld n (Rect.unit ![1, 0, 0] ![1, 1, 512] inb_S4x1x512_S1x1x512_1_0_0)) = chosenOf (left x c0) c1 :=
  chosen_eq (finite_left G.hx G.f0) G.f1 G.h1

/-- The rows the third level takes. -/
theorem Given.row2 : k0_pay6 (left (left x c0) c1)
    (View.ld a (Rect.unit ![2, 0, 0] ![1, 512, 96] inb_S4x512x96_S1x512x96_2_0_0))
    (View.ld b (Rect.unit ![2, 0, 0] ![1, 192, 512] inb_S4x192x512_S1x192x512_2_0_0))
    (View.ld n (Rect.unit ![2, 0, 0] ![1, 1, 512] inb_S4x1x512_S1x1x512_2_0_0)) = chosenOf (left (left x c0) c1) c2 :=
  chosen_eq (finite_left (finite_left G.hx G.f0) G.f1) G.f2 G.h2

/-- The rows the fourth level takes. -/
theorem Given.row3 : k0_pay6 (left (left (left x c0) c1) c2)
    (View.ld a (Rect.unit ![3, 0, 0] ![1, 512, 96] inb_S4x512x96_S1x512x96_3_0_0))
    (View.ld b (Rect.unit ![3, 0, 0] ![1, 192, 512] inb_S4x192x512_S1x192x512_3_0_0))
    (View.ld n (Rect.unit ![3, 0, 0] ![1, 1, 512] inb_S4x1x512_S1x1x512_3_0_0))
      = chosenOf (left (left (left x c0) c1) c2) c3 :=
  chosen_eq (finite_left (finite_left (finite_left G.hx G.f0) G.f1) G.f2) G.f3 G.h3

end Given

/-- A residual less the rows taken for it is what the level leaves. -/
theorem sub_chosenOf (r : FVec Ideal S4096x32 .f32) (c : FVec Ideal Codes .f32) :
    subf r (chosenOf r c) = left r c := rfl

variable (m : (ℓ : Loc nD τ sig) → Buf (Elt Ideal) ℓ)

/-- The first result block: the four rows summed, from zero. -/
theorem out_total (c : Dev nD) (t) {c0 c1 c2 c3 : FVec Ideal Codes .f32}
    (G : Given (iblk m c 0 t) (iblk m c 1 t) (iblk m c 2 t) (iblk m c 3 t) c0 c1 c2 c3) :
    (outsAt0 m c t).1 = addf (addf (addf (addf k0_pay5 (chosenOf (iblk m c 0 t) c0))
      (chosenOf (left (iblk m c 0 t) c0) c1)) (chosenOf (left (left (iblk m c 0 t) c0) c1) c2))
      (chosenOf (left (left (left (iblk m c 0 t) c0) c1) c2) c3) := by
  frame_out
  simp only [sum3, sum2, sum1, sum0, chosen1, left2, left1, left0, G.row0, sub_chosenOf, G.row1]
  rw [chosen2]
  simp only [chosen1, G.row0, sub_chosenOf, G.row1, G.row2]
  rw [chosen3, chosen2]
  simp only [chosen1, G.row0, sub_chosenOf, G.row1, G.row2, G.row3]

/-- The second result block: the four rows, stored level by level. -/
theorem out_levels (c : Dev nD) (t) {c0 c1 c2 c3 : FVec Ideal Codes .f32}
    (G : Given (iblk m c 0 t) (iblk m c 1 t) (iblk m c 2 t) (iblk m c 3 t) c0 c1 c2 c3) :
    (outsAt0 m c t).2.1 = View.canon (s := S4x4096x32)
      [⟨Rect.unit ![3, 0, 0] ![1, 4096, 32] inb_S4x4096x32_S1x4096x32_3_0_0,
          k0_pay7 (chosenOf (left (left (left (iblk m c 0 t) c0) c1) c2) c3)⟩,
        ⟨Rect.unit ![2, 0, 0] ![1, 4096, 32] inb_S4x4096x32_S1x4096x32_2_0_0,
          k0_pay7 (chosenOf (left (left (iblk m c 0 t) c0) c1) c2)⟩,
        ⟨Rect.unit ![1, 0, 0] ![1, 4096, 32] inb_S4x4096x32_S1x4096x32_1_0_0,
          k0_pay7 (chosenOf (left (iblk m c 0 t) c0) c1)⟩,
        ⟨Rect.unit ![0, 0, 0] ![1, 4096, 32] inb_S4x4096x32_S1x4096x32_0_0_0,
          k0_pay7 (chosenOf (iblk m c 0 t) c0)⟩] := by
  frame_out
  simp only [row3, Cert.Proof.row2, row1, chosen1, left2, left1, left0, G.row0, sub_chosenOf, G.row1]
  rw [chosen2]
  simp only [chosen1, G.row0, sub_chosenOf, G.row1, G.row2]
  rw [chosen3, chosen2]
  simp only [chosen1, G.row0, sub_chosenOf, G.row1, G.row2, G.row3]

/-- The third result block: the squares of the four residuals, summed. -/
theorem out_loss (c : Dev nD) (t) {c0 c1 c2 c3 : FVec Ideal Codes .f32}
    (G : Given (iblk m c 0 t) (iblk m c 1 t) (iblk m c 2 t) (iblk m c 3 t) c0 c1 c2 c3) :
    (outsAt0 m c t).2.2 = fun _ => Scalar.addf (FloatOps.ofBits .f32 0#32)
      (Scalar.addf (Scalar.addf (Scalar.addf (Scalar.addf (Scalar.ofBits .f32 0x00000000#32)
        (squares (left (iblk m c 0 t) c0))) (squares (left (left (iblk m c 0 t) c0) c1)))
        (squares (left (left (left (iblk m c 0 t) c0) c1) c2)))
        (squares (left (left (left (left (iblk m c 0 t) c0) c1) c2) c3))) := by
  frame_out
  simp only [loss3, loss2, loss1, loss0, chosen1, left2, left1, left0, G.row0, sub_chosenOf, G.row1]
  rw [chosen2]
  simp only [chosen1, G.row0, sub_chosenOf, G.row1, G.row2]
  rw [chosen3, chosen2]
  simp only [chosen1, G.row0, sub_chosenOf, G.row1, G.row2, G.row3]
  rfl

end Cert.Proof
-- ==== Proof.RefOps.lean ====
/- The reference's program as a list of host operations: one list for the lookup of the nearest
   code vector, one for one level of the quantizer, and the whole line, four levels and the joining
   of their results. The printed program is this line. -/
module

public import proofs.«01_k».proof.Proof.Gen.ReferenceIdeal
public import Idealize.ShloMosaic.Lib.StableHlo.RunHlo
public import Idealize.ShloMosaic.Lib.StableHlo.RunRead
public import Idealize.ShloMosaic.PureOps.Ideal

@[expose] public section

set_option maxRecDepth 16384

noncomputable section

namespace Cert.Proof.Ref

open Idealize.ShloMosaic Idealize.ShloMosaic.StableHlo Idealize.SL.Sem Cert.ReferenceIdeal
open Cert.ReferenceIdeal.Facts₀ Cert.ReferenceIdeal.Facts

/-- The operations of one search for a row's least entry. -/
def argminOps (x : TRef sig ⟨S4096x512, .f32⟩) (φ : fn_argmin.Bufs) : List (HloOp τ sig (Elt Ideal)) :=
  [ TRef.nullary φ.v0 (iotaInDim S4096x512 32 1),
    TRef.nullary φ.cst (constant (F := Ideal) S_ .f32 0x7F800000#32),
    TRef.nullary φ.c (constantI S_ 32 0#32),
    TRef.quaternary x φ.v0 φ.cst φ.c φ.v1_0
      (fun x y u v j => (Host.argReduce (F := Ideal) (φ := .f32) (reducer_argmin_f32_i32 (F := Ideal)) x y u v reducesTo_S4096x512_S4096_d1 h_S_ j).1),
    TRef.quaternary x φ.v0 φ.cst φ.c φ.v1_1
      (fun x y u v j => (Host.argReduce (F := Ideal) (φ := .f32) (reducer_argmin_f32_i32 (F := Ideal)) x y u v reducesTo_S4096x512_S4096_d1 h_S_ j).2) ]

/-- The operations of one lookup of rows by their numbers. -/
def takeOps (x : TRef sig ⟨S512x32, .f32⟩) (i : TRef sig ⟨S4096, .i32⟩) (φ : fn_take.Bufs) :
    List (HloOp τ sig (Elt Ideal)) :=
  [ TRef.nullary φ.c (constantI S_ 32 0#32),
    TRef.unary φ.c φ.v0 (broadcastInDim S4096 ![] bcast_S_S4096),
    TRef.binary i φ.v0 φ.v1 (cmpi .slt),
    TRef.nullary φ.c_0 (constantI S_ 32 512#32),
    TRef.unary φ.c_0 φ.v2 (broadcastInDim S4096 ![] bcast_S_S4096),
    TRef.binary i φ.v2 φ.v3 addi,
    TRef.ternary φ.v1 φ.v3 i φ.call0.v0 select,
    TRef.unary φ.call0.v0 φ.v5 (broadcastInDim S4096x1 ![0] bcast_S4096_S4096x1_0),
    TRef.nullary φ.c_1 (constantI S1 32 511#32),
    TRef.nullary φ.c_2 (constantI S_ 32 0#32),
    TRef.unary φ.c_2 φ.v6 (broadcastInDim S4096x1 ![] bcast_S_S4096x1),
    TRef.binary φ.v5 φ.v6 φ.v7 (cmpi .sge),
    TRef.unary φ.c_1 φ.v8 (broadcastInDim S1x1 ![1] bcast_S1_S1x1_1),
    TRef.unary φ.v8 φ.v9 (broadcastInDim S4096x1 ![0, 1] bcast_S1x1_S4096x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4096x1_S4096_d1 h_S_),
    TRef.binary x φ.v5 φ.v13 (fun x i => Host.gather gather_S512x32_S4096x1_S4096x32_1_0_n_n_0_1_132 x i),
    TRef.unary φ.v12 φ.v14 (broadcastInDim S4096x32 ![0] bcast_S4096_S4096x32_0),
    TRef.nullary φ.cst (constant (F := Ideal) S_ .f32 0x7FC00000#32),
    TRef.unary φ.cst φ.v15 (broadcastInDim S4096x32 ![] bcast_S_S4096x32),
    TRef.ternary φ.v14 φ.v13 φ.v15 φ.v16 select ]

/-- The buffers of one level: the residual it starts from (`r`), the level's code vectors (`cut`,
    `c`), the steps to the distances (`dist`), the two calls, the residual it leaves (`r'`) and the
    steps to its share of the loss (`part`). -/
structure LevelRefs where
  r : TRef sig ⟨S4096x32, .f32⟩
  cut : TRef sig ⟨S1x512x32, .f32⟩
  c : TRef sig ⟨S512x32, .f32⟩
  rb : TRef sig ⟨S4096x1x32, .f32⟩
  cb : TRef sig ⟨S1x512x32, .f32⟩
  rw : TRef sig ⟨S4096x512x32, .f32⟩
  cw : TRef sig ⟨S4096x512x32, .f32⟩
  diff : TRef sig ⟨S4096x512x32, .f32⟩
  sq : TRef sig ⟨S4096x512x32, .f32⟩
  z : TRef sig ⟨S_, .f32⟩
  dist : TRef sig ⟨S4096x512, .f32⟩
  search : fn_argmin.Bufs
  look : fn_take.Bufs
  r' : TRef sig ⟨S4096x32, .f32⟩
  sq' : TRef sig ⟨S4096x32, .f32⟩
  z' : TRef sig ⟨S_, .f32⟩
  sum : TRef sig ⟨S_, .f32⟩
  n : TRef sig ⟨S_, .f32⟩
  part : TRef sig ⟨S_, .f32⟩

/-- The operations of one level before the search. -/
def distOps (L : LevelRefs) (f : FVec Ideal S4x512x32 .f32 → FVec Ideal S1x512x32 .f32) :
    List (HloOp τ sig (Elt Ideal)) :=
  [ TRef.unary (.of main_arg1 : TRef sig ⟨S4x512x32, .f32⟩) L.cut f,
    TRef.reshape L.cut L.c rfl shapeCasts_S1x512x32_S512x32,
    TRef.unary L.r L.rb (broadcastInDim S4096x1x32 ![0, 2] bcast_S4096x32_S4096x1x32_0_2),
    TRef.unary L.c L.cb (broadcastInDim S1x512x32 ![1, 2] bcast_S512x32_S1x512x32_1_2),
    TRef.unary L.rb L.rw (broadcastInDim S4096x512x32 ![0, 1, 2] bcast_S4096x1x32_S4096x512x32_0_1_2),
    TRef.unary L.cb L.cw (broadcastInDim S4096x512x32 ![0, 1, 2] bcast_S1x512x32_S4096x512x32_0_1_2),
    TRef.binary L.rw L.cw L.diff (subf (F := Ideal) (φ := .f32)),
    TRef.binary L.diff L.diff L.sq (mulf (F := Ideal) (φ := .f32)),
    TRef.nullary L.z (constant (F := Ideal) S_ .f32 0x00000000#32),
    TRef.binary L.sq L.z L.dist (fun x v => Host.reduceAdd (F := Ideal) (φ := .f32) x v reducesTo_S4096x512x32_S4096x512_d2 h_S_) ]

/-- The operations of one level after the lookup. -/
def restOps (L : LevelRefs) : List (HloOp τ sig (Elt Ideal)) :=
  [ TRef.binary L.r L.look.v16 L.r' (subf (F := Ideal) (φ := .f32)),
    TRef.binary L.r' L.r' L.sq' (mulf (F := Ideal) (φ := .f32)),
    TRef.nullary L.z' (constant (F := Ideal) S_ .f32 0x00000000#32),
    TRef.binary L.sq' L.z' L.sum (fun x v => Host.reduceAdd (F := Ideal) (φ := .f32) x v reducesTo_S4096x32_S_d0_1 h_S_),
    TRef.nullary L.n (constant (F := Ideal) S_ .f32 0x48000000#32),
    TRef.binary L.sum L.n L.part (Host.divf (F := Ideal) (φ := .f32)) ]

/-- The operations of one level. -/
def levelOps (L : LevelRefs) (f : FVec Ideal S4x512x32 .f32 → FVec Ideal S1x512x32 .f32) :
    List (HloOp τ sig (Elt Ideal)) :=
  distOps L f ++ argminOps L.dist L.search ++ takeOps L.c L.search.v1_1 L.look ++ restOps L

/-- The first level's buffers. -/
abbrev lv0 : LevelRefs where
  r := .of main_arg0
  cut := .of main_v0
  c := .of main_v1
  rb := .of main_v2
  cb := .of main_v3
  rw := .of main_v4
  cw := .of main_v5
  diff := .of main_v6
  sq := .of main_v7
  z := .of main_cst
  dist := .of main_v8
  search := main_call0
  look := main_call1
  r' := .of main_v11
  sq' := .of main_v12
  z' := .of main_cst_0
  sum := .of main_v13
  n := .of main_cst_1
  part := .of main_v14

/-- The second level's buffers. -/
abbrev lv1 : LevelRefs where
  r := .of main_v11
  cut := .of main_v16
  c := .of main_v17
  rb := .of main_v18
  cb := .of main_v19
  rw := .of main_v20
  cw := .of main_v21
  diff := .of main_v22
  sq := .of main_v23
  z := .of main_cst_3
  dist := .of main_v24
  search := main_call2
  look := main_call3
  r' := .of main_v27
  sq' := .of main_v28
  z' := .of main_cst_4
  sum := .of main_v29
  n := .of main_cst_5
  part := .of main_v30

/-- The third level's buffers. -/
abbrev lv2 : LevelRefs where
  r := .of main_v27
  cut := .of main_v32
  c := .of main_v33
  rb := .of main_v34
  cb := .of main_v35
  rw := .of main_v36
  cw := .of main_v37
  diff := .of main_v38
  sq := .of main_v39
  z := .of main_cst_6
  dist := .of main_v40
  search := main_call4
  look := main_call5
  r' := .of main_v43
  sq' := .of main_v44
  z' := .of main_cst_7
  sum := .of main_v45
  n := .of main_cst_8
  part := .of main_v46

/-- The fourth level's buffers. -/
abbrev lv3 : LevelRefs where
  r := .of main_v43
  cut := .of main_v48
  c := .of main_v49
  rb := .of main_v50
  cb := .of main_v51
  rw := .of main_v52
  cw := .of main_v53
  diff := .of main_v54
  sq := .of main_v55
  z := .of main_cst_9
  dist := .of main_v56
  search := main_call6
  look := main_call7
  r' := .of main_v59
  sq' := .of main_v60
  z' := .of main_cst_10
  sum := .of main_v61
  n := .of main_cst_11
  part := .of main_v62

/-- The level's code vectors, cut out of the array of all levels' code vectors. -/
abbrev cut0 (x : FVec Ideal S4x512x32 .f32) : FVec Ideal S1x512x32 .f32 :=
  extractStridedSlice S1x512x32 ![0, 0, 0] x slices_S4x512x32_S1x512x32_0_0_0
@[inherit_doc cut0] abbrev cut1 (x : FVec Ideal S4x512x32 .f32) : FVec Ideal S1x512x32 .f32 :=
  extractStridedSlice S1x512x32 ![1, 0, 0] x slices_S4x512x32_S1x512x32_1_0_0
@[inherit_doc cut0] abbrev cut2 (x : FVec Ideal S4x512x32 .f32) : FVec Ideal S1x512x32 .f32 :=
  extractStridedSlice S1x512x32 ![2, 0, 0] x slices_S4x512x32_S1x512x32_2_0_0
@[inherit_doc cut0] abbrev cut3 (x : FVec Ideal S4x512x32 .f32) : FVec Ideal S1x512x32 .f32 :=
  extractStridedSlice S1x512x32 ![3, 0, 0] x slices_S4x512x32_S1x512x32_3_0_0

/-- The first addition to the loss, from zero. -/
def lossOps0 : List (HloOp τ sig (Elt Ideal)) :=
  [ TRef.nullary (.of main_cst_2 : TRef sig ⟨S_, .f32⟩) (constant (F := Ideal) S_ .f32 0x00000000#32),
    TRef.binary (.of main_cst_2) (.of main_v14) (.of main_v15) (addf (F := Ideal) (φ := .f32) (s := S_)) ]

/-- A later addition to the loss. -/
def lossOps (a b y : TRef sig ⟨S_, .f32⟩) : List (HloOp τ sig (Elt Ideal)) :=
  [ TRef.binary a b y (addf (F := Ideal) (φ := .f32) (s := S_)) ]

/-- The four lookups stacked, and their sum. -/
def joinOps : List (HloOp τ sig (Elt Ideal)) :=
  [ TRef.unary (.of main_v10 : TRef sig ⟨S4096x32, .f32⟩) (.of main_v64 : TRef sig ⟨S1x4096x32, .f32⟩)
      (broadcastInDim S1x4096x32 ![1, 2] bcast_S4096x32_S1x4096x32_1_2),
    TRef.unary (.of main_v26 : TRef sig ⟨S4096x32, .f32⟩) (.of main_v65 : TRef sig ⟨S1x4096x32, .f32⟩)
      (broadcastInDim S1x4096x32 ![1, 2] bcast_S4096x32_S1x4096x32_1_2),
    TRef.unary (.of main_v42 : TRef sig ⟨S4096x32, .f32⟩) (.of main_v66 : TRef sig ⟨S1x4096x32, .f32⟩)
      (broadcastInDim S1x4096x32 ![1, 2] bcast_S4096x32_S1x4096x32_1_2),
    TRef.unary (.of main_v58 : TRef sig ⟨S4096x32, .f32⟩) (.of main_v67 : TRef sig ⟨S1x4096x32, .f32⟩)
      (broadcastInDim S1x4096x32 ![1, 2] bcast_S4096x32_S1x4096x32_1_2),
    StableHlo.nary ![main_v64, main_v65, main_v66, main_v67] main_v68 (fun u =>
      (concatenate S4x4096x32 0 [⟨S1x4096x32, (u 0 : (⟨S1x4096x32, .f32⟩ : BufTy).Contents (Elt Ideal))⟩,
        ⟨S1x4096x32, (u 1 : (⟨S1x4096x32, .f32⟩ : BufTy).Contents (Elt Ideal))⟩,
        ⟨S1x4096x32, (u 2 : (⟨S1x4096x32, .f32⟩ : BufTy).Contents (Elt Ideal))⟩,
        ⟨S1x4096x32, (u 3 : (⟨S1x4096x32, .f32⟩ : BufTy).Contents (Elt Ideal))⟩]
        concatenates_S1x4096x32_S1x4096x32_S1x4096x32_S1x4096x32_S4x4096x32_d0 :
        (⟨S4x4096x32, .f32⟩ : BufTy).Contents (Elt Ideal))),
    TRef.nullary (.of main_cst_12 : TRef sig ⟨S_, .f32⟩) (constant (F := Ideal) S_ .f32 0x00000000#32),
    TRef.binary (.of main_v68 : TRef sig ⟨S4x4096x32, .f32⟩) (.of main_cst_12 : TRef sig ⟨S_, .f32⟩)
      (.of main_v69 : TRef sig ⟨S4096x32, .f32⟩)
      (fun x v => Host.reduceAdd (F := Ideal) (φ := .f32) x v reducesTo_S4x4096x32_S4096x32_d0 h_S_) ]

/-- The first two levels' operations. -/
def opsA : List (HloOp τ sig (Elt Ideal)) :=
  levelOps lv0 cut0 ++ lossOps0 ++ (levelOps lv1 cut1 ++ lossOps (.of main_v15) (.of main_v30) (.of main_v31))

/-- The last two levels' operations. -/
def opsB : List (HloOp τ sig (Elt Ideal)) :=
  levelOps lv2 cut2 ++ lossOps (.of main_v31) (.of main_v46) (.of main_v47)
    ++ (levelOps lv3 cut3 ++ lossOps (.of main_v47) (.of main_v62) (.of main_v63))

/-- The reference's whole line. -/
def ops : List (HloOp τ sig (Elt Ideal)) := opsA ++ opsB ++ joinOps

set_option maxHeartbeats 2000000 in
/-- The printed reference is the line. -/
theorem main_eq (d : Dev nD) : main (F := Ideal) d = seq ops := by
  rfl

theorem ops_sub : ops.Forall fun op => op.bufs ⊆ tcRefs τ sig := by
  simp [ops, opsA, opsB, levelOps, distOps, argminOps, takeOps, restOps, lossOps0, lossOps, joinOps]

theorem ops_fresh : ∀ op ∈ ops, op.fresh = ∅ := by
  intro _ h
  (repeat (cases h with | head => rfl | tail _ h => ?_))
  exact nomatch h

end Cert.Proof.Ref
-- ==== Proof.RefRun.lean ====
/- What the reference's line leaves: each level's operations, read at the level's lookup, residual
   and share of the loss, as functions of the residual before it and of the code vectors. -/
module

public import proofs.«01_k».proof.Proof.RefOps
public import Idealize.ShloMosaic.Lib.StableHlo.RunRead
public import Idealize.ShloMosaic.Lib.Pipeline.Frame
public import Idealize.ShloMosaic.Lib.Quiescent

@[expose] public section

set_option maxRecDepth 16384

noncomputable section

namespace Cert.Proof.Ref

open Idealize.ShloMosaic Idealize.ShloMosaic.StableHlo Idealize.ShloMosaic.Pipeline Idealize.SL.Sem Cert.ReferenceIdeal
open Cert.ReferenceIdeal.Facts₀ Cert.ReferenceIdeal.Facts

/-- The differences of every residual row from every code vector. -/
def refDiff (r : FVec Ideal S4096x32 .f32) (c : FVec Ideal S512x32 .f32) : FVec Ideal S4096x512x32 .f32 :=
  subf (broadcastInDim S4096x512x32 ![0, 1, 2] bcast_S4096x1x32_S4096x512x32_0_1_2
      (broadcastInDim S4096x1x32 ![0, 2] bcast_S4096x32_S4096x1x32_0_2 r))
    (broadcastInDim S4096x512x32 ![0, 1, 2] bcast_S1x512x32_S4096x512x32_0_1_2
      (broadcastInDim S1x512x32 ![1, 2] bcast_S512x32_S1x512x32_1_2 c))

/-- The squared distances of every residual row from every code vector. -/
def refDist (r : FVec Ideal S4096x32 .f32) (c : FVec Ideal S512x32 .f32) : FVec Ideal S4096x512 .f32 :=
  Host.reduceAdd (mulf (refDiff r c) (refDiff r c)) (constant (F := Ideal) S_ .f32 0x00000000#32)
    reducesTo_S4096x512x32_S4096x512_d2 h_S_

/-- The position of each row's least entry, as the reference's fold finds it. -/
def refArgmin (x : FVec Ideal S4096x512 .f32) : IVec S4096 32 := fun j =>
  (Host.argReduce (F := Ideal) (φ := .f32) (reducer_argmin_f32_i32 (F := Ideal)) x (iotaInDim S4096x512 32 1)
    (constant (F := Ideal) S_ .f32 0x7F800000#32) (constantI S_ 32 0#32) reducesTo_S4096x512_S4096_d1 h_S_ j).2

/-- The row numbers with the negative ones moved up by the number of rows, as a column. -/
def refRows (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 512#32))) i)

/-- Which row numbers lie in range. -/
def refInside (i : IVec S4096 32) : IVec S4096 1 :=
  Host.reduce IntOp.andi
    (andi (cmpi .sge (refRows i) (broadcastInDim S4096x1 ![] bcast_S_S4096x1 (constantI S_ 32 0#32)))
      (cmpi .sle (refRows i) (broadcastInDim S4096x1 ![0, 1] bcast_S1x1_S4096x1_0_1
        (broadcastInDim S1x1 ![1] bcast_S1_S1x1_1 (constantI S1 32 511#32)))))
    (constantI S_ 1 1#1) reducesTo_S4096x1_S4096_d1 h_S_

/-- The rows of `c` at the numbers `i`. -/
def refTake (c : FVec Ideal S512x32 .f32) (i : IVec S4096 32) : FVec Ideal S4096x32 .f32 :=
  select (broadcastInDim S4096x32 ![0] bcast_S4096_S4096x32_0 (refInside i))
    (Host.gather gather_S512x32_S4096x1_S4096x32_1_0_n_n_0_1_132 c (refRows i))
    (broadcastInDim S4096x32 ![] bcast_S_S4096x32 (constant (F := Ideal) S_ .f32 0x7FC00000#32))

/-- The nearest code vector of every residual row. -/
def refChosen (r : FVec Ideal S4096x32 .f32) (c : FVec Ideal S512x32 .f32) : FVec Ideal S4096x32 .f32 :=
  refTake c (refArgmin (refDist r c))

/-- The residual after the nearest code vectors are taken off. -/
def refNext (r : FVec Ideal S4096x32 .f32) (c : FVec Ideal S512x32 .f32) : FVec Ideal S4096x32 .f32 :=
  subf r (refChosen r c)

/-- The mean of a residual's squares. -/
def refMean (r : FVec Ideal S4096x32 .f32) : FVec Ideal S_ .f32 :=
  Host.divf (Host.reduceAdd (mulf r r) (constant (F := Ideal) S_ .f32 0x00000000#32) reducesTo_S4096x32_S_d0_1 h_S_)
    (constant (F := Ideal) S_ .f32 0x48000000#32)

/-- One level's code vectors out of all of them, as `f` cuts. -/
def codes (f : FVec Ideal S4x512x32 .f32 → FVec Ideal S1x512x32 .f32) (x : FVec Ideal S4x512x32 .f32) :
    FVec Ideal S512x32 .f32 :=
  shapeCast S512x32 (f x) shapeCasts_S1x512x32_S512x32

/-- What the contents `V` hold at a typed buffer. -/
def rd {T : BufTy} (x : TRef sig T) (V : Valuation τ sig (Elt Ideal)) : T.Contents (Elt Ideal) :=
  x.ofBuf (V (Proc.devRef (τ := τ) .tc x.ref))

/-- The four levels' buffers. -/
abbrev levels : List LevelRefs := [lv0, lv1, lv2, lv3]

/-- Of a level's first operations: the distances, the code vectors, and the residual untouched. -/
theorem read_dist {L : LevelRefs} (h : L ∈ levels) (f : FVec Ideal S4x512x32 .f32 → FVec Ideal S1x512x32 .f32)
    (V : Valuation τ sig (Elt Ideal)) :
    rd L.dist (after (distOps L f) V) = refDist (rd L.r V) (codes f (rd (.of main_arg1 : TRef sig ⟨S4x512x32, .f32⟩) V))
    ∧ rd L.c (after (distOps L f) V) = codes f (rd (.of main_arg1 : TRef sig ⟨S4x512x32, .f32⟩) V)
    ∧ rd L.r (after (distOps L f) V) = rd L.r V := by
  simp only [List.mem_cons, List.not_mem_nil, or_false] at h
  unfold rd
  rcases h with rfl | rfl | rfl | rfl <;> (refine ⟨?_, ?_, ?_⟩ <;> after_reads_simp <;> rfl)

/-- Of a level's search: the positions, and the code vectors and the residual untouched. -/
theorem read_argmin {L : LevelRefs} (h : L ∈ levels) (V : Valuation τ sig (Elt Ideal)) :
    rd L.search.v1_1 (after (argminOps L.dist L.search) V) = refArgmin (rd L.dist V)
    ∧ rd L.c (after (argminOps L.dist L.search) V) = rd L.c V
    ∧ rd L.r (after (argminOps L.dist L.search) V) = rd L.r V := by
  simp only [List.mem_cons, List.not_mem_nil, or_false] at h
  unfold rd
  rcases h with rfl | rfl | rfl | rfl <;> (refine ⟨?_, ?_, ?_⟩ <;> after_reads_simp <;> rfl)

/-- Of a level's lookup: the nearest code vectors, and the residual untouched. -/
theorem read_take {L : LevelRefs} (h : L ∈ levels) (V : Valuation τ sig (Elt Ideal)) :
    rd L.look.v16 (after (takeOps L.c L.search.v1_1 L.look) V) = refTake (rd L.c V) (rd L.search.v1_1 V)
    ∧ rd L.r (after (takeOps L.c L.search.v1_1 L.look) V) = rd L.r V := by
  simp only [List.mem_cons, List.not_mem_nil, or_false] at h
  unfold rd
  rcases h with rfl | rfl | rfl | rfl <;>
    (refine ⟨?_, ?_⟩ <;> after_reads_simp <;> (try simp only [TRef.ofBuf_toBuf]) <;> rfl)

/-- Of a level's last operations: the next residual, its share of the loss, and the nearest code
    vectors untouched. -/
theorem read_rest {L : LevelRefs} (h : L ∈ levels) (V : Valuation τ sig (Elt Ideal)) :
    rd L.r' (after (restOps L) V) = subf (F := Ideal) (φ := .f32) (rd L.r V) (rd L.look.v16 V)
    ∧ rd L.part (after (restOps L) V) = refMean (subf (F := Ideal) (φ := .f32) (rd L.r V) (rd L.look.v16 V))
    ∧ rd L.look.v16 (after (restOps L) V) = rd L.look.v16 V := by
  simp only [List.mem_cons, List.not_mem_nil, or_false] at h
  unfold rd
  rcases h with rfl | rfl | rfl | rfl <;> (refine ⟨?_, ?_, ?_⟩ <;> after_reads_simp <;> rfl)

/-- Of a whole level: the nearest code vectors, the next residual and its share of the loss, each a
    function of the residual and of all code vectors before it. -/
theorem read_level {L : LevelRefs} (h : L ∈ levels) (f : FVec Ideal S4x512x32 .f32 → FVec Ideal S1x512x32 .f32)
    (V : Valuation τ sig (Elt Ideal)) {r : FVec Ideal S4096x32 .f32} {x : FVec Ideal S4x512x32 .f32}
    (hr : rd L.r V = r) (hx : rd (.of main_arg1 : TRef sig ⟨S4x512x32, .f32⟩) V = x) :
    rd L.look.v16 (after (levelOps L f) V) = refChosen r (codes f x)
    ∧ rd L.r' (after (levelOps L f) V) = refNext r (codes f x)
    ∧ rd L.part (after (levelOps L f) V) = refMean (refNext r (codes f x)) := by
  obtain ⟨d1, d2, d3⟩ := read_dist h f V
  obtain ⟨a1, a2, a3⟩ := read_argmin h (after (distOps L f) V)
  obtain ⟨p1, p2⟩ := read_take h (after (argminOps L.dist L.search) (after (distOps L f) V))
  obtain ⟨e1, e2, e3⟩ := read_rest h (after (takeOps L.c L.search.v1_1 L.look)
    (after (argminOps L.dist L.search) (after (distOps L f) V)))
  rw [levelOps, after_append, after_append, after_append, e1, e2, e3, p1, p2, a1, a2, a3, d1, d2, d3, hr, hx]
  exact ⟨rfl, rfl, rfl⟩

/-- The buffers a level writes, in order. -/
def wrote (L : LevelRefs) : List (Ref sig .tc) :=
  [L.cut.ref, L.c.ref, L.rb.ref, L.cb.ref, L.rw.ref, L.cw.ref, L.diff.ref, L.sq.ref, L.z.ref, L.dist.ref,
    L.search.v0.ref, L.search.cst.ref, L.search.c.ref, L.search.v1_0.ref, L.search.v1_1.ref,
    L.look.c.ref, L.look.v0.ref, L.look.v1.ref, L.look.c_0.ref, L.look.v2.ref, L.look.v3.ref, L.look.call0.v0.ref,
    L.look.v5.ref, L.look.c_1.ref, L.look.c_2.ref, L.look.v6.ref, L.look.v7.ref, L.look.v8.ref, L.look.v9.ref,
    L.look.v10.ref, L.look.v11.ref, L.look.c_3.ref, L.look.v12.ref, L.look.v13.ref, L.look.v14.ref, L.look.cst.ref,
    L.look.v15.ref, L.look.v16.ref, L.r'.ref, L.sq'.ref, L.z'.ref, L.sum.ref, L.n.ref, L.part.ref]

/-- A level leaves every buffer that it does not write. -/
theorem keep_level (L : LevelRefs) (f : FVec Ideal S4x512x32 .f32 → FVec Ideal S1x512x32 .f32)
    (V : Valuation τ sig (Elt Ideal)) {T : BufTy} (t : TRef sig T) (h : t.ref ∉ wrote L) :
    rd t (after (levelOps L f) V) = rd t V :=
  congrArg t.ofBuf (after_unwritten (wrote L) rfl h V)

/-- The first addition to the loss leaves every buffer but its two. -/
theorem keep_loss0 (V : Valuation τ sig (Elt Ideal)) {T : BufTy} (t : TRef sig T)
    (h : t.ref ∉ [main_cst_2, main_v15]) : rd t (after lossOps0 V) = rd t V :=
  congrArg t.ofBuf (after_unwritten [main_cst_2, main_v15] rfl h V)

/-- A later addition to the loss leaves every buffer but its own. -/
theorem keep_loss (a b y : TRef sig ⟨S_, .f32⟩) (V : Valuation τ sig (Elt Ideal)) {T : BufTy} (t : TRef sig T)
    (h : t.ref ∉ [y.ref]) : rd t (after (lossOps a b y) V) = rd t V :=
  congrArg t.ofBuf (after_unwritten [y.ref] rfl h V)

/-- The stacking leaves every buffer but its own. -/
theorem keep_join (V : Valuation τ sig (Elt Ideal)) {T : BufTy} (t : TRef sig T)
    (h : t.ref ∉ [main_v64, main_v65, main_v66, main_v67, main_v68, main_cst_12, main_v69]) :
    rd t (after joinOps V) = rd t V :=
  congrArg t.ofBuf (after_unwritten [main_v64, main_v65, main_v66, main_v67, main_v68, main_cst_12, main_v69] rfl h V)

/-- A later addition to the loss, read. -/
theorem read_loss (a b y : TRef sig ⟨S_, .f32⟩) (V : Valuation τ sig (Elt Ideal)) :
    rd y (after (lossOps a b y) V) = addf (F := Ideal) (φ := .f32) (s := S_) (rd a V) (rd b V) := by
  simp only [lossOps, rd, after_cons, after_nil, TRef.binary, binary_result', TRef.ofBuf_toBuf]

/-- The first addition to the loss, read. -/
theorem read_loss0 (V : Valuation τ sig (Elt Ideal)) :
    rd (.of main_v15 : TRef sig ⟨S_, .f32⟩) (after lossOps0 V)
      = addf (F := Ideal) (φ := .f32) (s := S_) (constant (F := Ideal) S_ .f32 0x00000000#32)
          (rd (.of main_v14 : TRef sig ⟨S_, .f32⟩) V) := by
  unfold rd
  after_reads_simp
  rfl

/-- Four arrays stacked along a new leading axis. -/
def refStack (a b c d : FVec Ideal S4096x32 .f32) : FVec Ideal S4x4096x32 .f32 :=
  concatenate S4x4096x32 0
    [⟨S1x4096x32, broadcastInDim S1x4096x32 ![1, 2] bcast_S4096x32_S1x4096x32_1_2 a⟩,
      ⟨S1x4096x32, broadcastInDim S1x4096x32 ![1, 2] bcast_S4096x32_S1x4096x32_1_2 b⟩,
      ⟨S1x4096x32, broadcastInDim S1x4096x32 ![1, 2] bcast_S4096x32_S1x4096x32_1_2 c⟩,
      ⟨S1x4096x32, broadcastInDim S1x4096x32 ![1, 2] bcast_S4096x32_S1x4096x32_1_2 d⟩]
    concatenates_S1x4096x32_S1x4096x32_S1x4096x32_S1x4096x32_S4x4096x32_d0

/-- The sum over the leading axis. -/
def refTotal (x : FVec Ideal S4x4096x32 .f32) : FVec Ideal S4096x32 .f32 :=
  Host.reduceAdd x (constant (F := Ideal) S_ .f32 0x00000000#32) reducesTo_S4x4096x32_S4096x32_d0 h_S_

/-- The stacking, read at the stack and at its sum. -/
theorem read_join (V : Valuation τ sig (Elt Ideal)) :
    rd (.of main_v68 : TRef sig ⟨S4x4096x32, .f32⟩) (after joinOps V)
      = refStack (rd lv0.look.v16 V) (rd lv1.look.v16 V) (rd lv2.look.v16 V) (rd lv3.look.v16 V)
    ∧ rd (.of main_v69 : TRef sig ⟨S4096x32, .f32⟩) (after joinOps V)
      = refTotal (refStack (rd lv0.look.v16 V) (rd lv1.look.v16 V) (rd lv2.look.v16 V) (rd lv3.look.v16 V)) := by
  unfold rd
  refine ⟨?_, ?_⟩ <;> after_reads_simp <;> rfl

/-- The residual before each level. -/
def res0 (x : FVec Ideal S4096x32 .f32) (_ : FVec Ideal S4x512x32 .f32) : FVec Ideal S4096x32 .f32 := x
@[inherit_doc res0] def res1 (x : FVec Ideal S4096x32 .f32) (c : FVec Ideal S4x512x32 .f32) : FVec Ideal S4096x32 .f32 :=
  refNext (res0 x c) (codes cut0 c)
@[inherit_doc res0] def res2 (x : FVec Ideal S4096x32 .f32) (c : FVec Ideal S4x512x32 .f32) : FVec Ideal S4096x32 .f32 :=
  refNext (res1 x c) (codes cut1 c)
@[inherit_doc res0] def res3 (x : FVec Ideal S4096x32 .f32) (c : FVec Ideal S4x512x32 .f32) : FVec Ideal S4096x32 .f32 :=
  refNext (res2 x c) (codes cut2 c)
/-- The residual after the last level. -/
def res4 (x : FVec Ideal S4096x32 .f32) (c : FVec Ideal S4x512x32 .f32) : FVec Ideal S4096x32 .f32 :=
  refNext (res3 x c) (codes cut3 c)

/-- The four levels' nearest code vectors, stacked. -/
def refLevels (x : FVec Ideal S4096x32 .f32) (c : FVec Ideal S4x512x32 .f32) : FVec Ideal S4x4096x32 .f32 :=
  refStack (refChosen (res0 x c) (codes cut0 c)) (refChosen (res1 x c) (codes cut1 c))
    (refChosen (res2 x c) (codes cut2 c)) (refChosen (res3 x c) (codes cut3 c))

/-- The loss. -/
def refLoss (x : FVec Ideal S4096x32 .f32) (c : FVec Ideal S4x512x32 .f32) : FVec Ideal S_ .f32 :=
  addf (addf (addf (addf (constant (F := Ideal) S_ .f32 0x00000000#32) (refMean (res1 x c))) (refMean (res2 x c)))
    (refMean (res3 x c))) (refMean (res4 x c))

/-- What the whole line leaves at its three results and at its two arguments. -/
theorem read_ops (V : Valuation τ sig (Elt Ideal)) {x : FVec Ideal S4096x32 .f32} {c : FVec Ideal S4x512x32 .f32}
    (hx : rd (.of main_arg0 : TRef sig ⟨S4096x32, .f32⟩) V = x)
    (hc : rd (.of main_arg1 : TRef sig ⟨S4x512x32, .f32⟩) V = c) :
    rd (.of main_v69 : TRef sig ⟨S4096x32, .f32⟩) (after ops V) = refTotal (refLevels x c)
    ∧ rd (.of main_v68 : TRef sig ⟨S4x4096x32, .f32⟩) (after ops V) = refLevels x c
    ∧ rd (.of main_v63 : TRef sig ⟨S_, .f32⟩) (after ops V) = refLoss x c
    ∧ rd (.of main_arg0 : TRef sig ⟨S4096x32, .f32⟩) (after ops V) = x
    ∧ rd (.of main_arg1 : TRef sig ⟨S4x512x32, .f32⟩) (after ops V) = c := by
  set V1 := after (levelOps lv0 cut0) V with hV1
  set V2 := after lossOps0 V1 with hV2
  set V3 := after (levelOps lv1 cut1) V2 with hV3
  set V4 := after (lossOps (.of main_v15) (.of main_v30) (.of main_v31)) V3 with hV4
  set V5 := after (levelOps lv2 cut2) V4 with hV5
  set V6 := after (lossOps (.of main_v31) (.of main_v46) (.of main_v47)) V5 with hV6
  set V7 := after (levelOps lv3 cut3) V6 with hV7
  set V8 := after (lossOps (.of main_v47) (.of main_v62) (.of main_v63)) V7 with hV8
  have hall : after ops V = after joinOps V8 := by
    simp only [ops, opsA, opsB, after_append, hV1, hV2, hV3, hV4, hV5, hV6, hV7, hV8]
  have c2 : rd (.of main_arg1 : TRef sig ⟨S4x512x32, .f32⟩) V2 = c := by
    rw [hV2, keep_loss0 _ _ (by decide), hV1, keep_level _ _ _ _ (by decide), hc]
  have c4 : rd (.of main_arg1 : TRef sig ⟨S4x512x32, .f32⟩) V4 = c := by
    rw [hV4, keep_loss _ _ _ _ _ (by decide), hV3, keep_level _ _ _ _ (by decide), c2]
  have c6 : rd (.of main_arg1 : TRef sig ⟨S4x512x32, .f32⟩) V6 = c := by
    rw [hV6, keep_loss _ _ _ _ _ (by decide), hV5, keep_level _ _ _ _ (by decide), c4]
  obtain ⟨q1, r1, s1⟩ := read_level (L := lv0) (by simp) cut0 V hx hc
  have r2 : rd lv1.r V2 = res1 x c := by rw [hV2, keep_loss0 _ _ (by decide)]; exact r1
  obtain ⟨q3, r3, s3⟩ := read_level (L := lv1) (by simp) cut1 V2 r2 c2
  have r4 : rd lv2.r V4 = res2 x c := by rw [hV4, keep_loss _ _ _ _ _ (by decide)]; exact r3
  obtain ⟨q5, r5, s5⟩ := read_level (L := lv2) (by simp) cut2 V4 r4 c4
  have r6 : rd lv3.r V6 = res3 x c := by rw [hV6, keep_loss _ _ _ _ _ (by decide)]; exact r5
  obtain ⟨q7, r7, s7⟩ := read_level (L := lv3) (by simp) cut3 V6 r6 c6
  have Q3 : rd lv3.look.v16 V8 = refChosen (res3 x c) (codes cut3 c) := by
    rw [hV8, keep_loss _ _ _ _ _ (by decide)]; exact q7
  have Q2 : rd lv2.look.v16 V8 = refChosen (res2 x c) (codes cut2 c) := by
    rw [hV8, keep_loss _ _ _ _ _ (by decide), hV7, keep_level _ _ _ _ (by decide), hV6,
      keep_loss _ _ _ _ _ (by decide)]; exact q5
  have Q1 : rd lv1.look.v16 V8 = refChosen (res1 x c) (codes cut1 c) := by
    rw [hV8, keep_loss _ _ _ _ _ (by decide), hV7, keep_level _ _ _ _ (by decide), hV6,
      keep_loss _ _ _ _ _ (by decide), hV5, keep_level _ _ _ _ (by decide), hV4,
      keep_loss _ _ _ _ _ (by decide)]; exact q3
  have Q0 : rd lv0.look.v16 V8 = refChosen (res0 x c) (codes cut0 c) := by
    rw [hV8, keep_loss _ _ _ _ _ (by decide), hV7, keep_level _ _ _ _ (by decide), hV6,
      keep_loss _ _ _ _ _ (by decide), hV5, keep_level _ _ _ _ (by decide), hV4,
      keep_loss _ _ _ _ _ (by decide), hV3, keep_level _ _ _ _ (by decide), hV2,
      keep_loss0 _ _ (by decide)]; exact q1
  have l2 : rd (.of main_v15 : TRef sig ⟨S_, .f32⟩) V2
      = addf (constant (F := Ideal) S_ .f32 0x00000000#32) (refMean (res1 x c)) := by
    rw [hV2, read_loss0]; exact congrArg _ s1
  have l4 : rd (.of main_v31 : TRef sig ⟨S_, .f32⟩) V4
      = addf (addf (constant (F := Ideal) S_ .f32 0x00000000#32) (refMean (res1 x c))) (refMean (res2 x c)) := by
    rw [hV4, read_loss, hV3, keep_level _ _ _ (.of main_v15) (by decide), l2]; exact congrArg _ s3
  have l6 : rd (.of main_v47 : TRef sig ⟨S_, .f32⟩) V6
      = addf (addf (addf (constant (F := Ideal) S_ .f32 0x00000000#32) (refMean (res1 x c))) (refMean (res2 x c)))
        (refMean (res3 x c)) := by
    rw [hV6, read_loss, hV5, keep_level _ _ _ (.of main_v31) (by decide), l4]; exact congrArg _ s5
  have l8 : rd (.of main_v63 : TRef sig ⟨S_, .f32⟩) V8 = refLoss x c := by
    rw [hV8, read_loss, hV7, keep_level _ _ _ (.of main_v47) (by decide), l6]; exact congrArg _ s7
  obtain ⟨j1, j2⟩ := read_join V8
  rw [Q0, Q1, Q2, Q3] at j1 j2
  rw [hall]
  refine ⟨j2, j1, ?_, ?_, ?_⟩
  · rw [keep_join _ _ (by decide), l8]
  · rw [keep_join _ _ (by decide), hV8, keep_loss _ _ _ _ _ (by decide), hV7, keep_level _ _ _ _ (by decide), hV6,
      keep_loss _ _ _ _ _ (by decide), hV5, keep_level _ _ _ _ (by decide), hV4,
      keep_loss _ _ _ _ _ (by decide), hV3, keep_level _ _ _ _ (by decide), hV2,
      keep_loss0 _ _ (by decide), hV1, keep_level _ _ _ _ (by decide), hx]
  · rw [keep_join _ _ (by decide), hV8, keep_loss _ _ _ _ _ (by decide), hV7, keep_level _ _ _ _ (by decide), c6]

/-- Every run of the reference ends with its three results as above, its arguments as they were and
    its semaphores at zero. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      (∀ d : Dev nD,
        r.2.mem ((d.tc : Thread nD τ).loc main_v69)
          = refTotal (refLevels (m ((d.tc : Thread nD τ).loc main_arg0)) (m ((d.tc : Thread nD τ).loc main_arg1)))
        ∧ r.2.mem ((d.tc : Thread nD τ).loc main_v68)
          = refLevels (m ((d.tc : Thread nD τ).loc main_arg0)) (m ((d.tc : Thread nD τ).loc main_arg1))
        ∧ r.2.mem ((d.tc : Thread nD τ).loc main_v63)
          = refLoss (m ((d.tc : Thread nD τ).loc main_arg0)) (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1))
      ∧ r.2.sem = fun _ => 0 := by
  refine θ_run_mono (run_seq (by decide) (by decide) _ _ (fun _ => ops) main_eq (fun _ => ops_sub) m g
    (fun _ => ops_fresh)) fun r hr => ⟨fun d => ?_, sem_eq_zero_of_no_sems (by decide) _⟩
  rw [hr d, hr d, hr d, hr d, hr d]
  exact read_ops _ rfl rfl

end Cert.Proof.Ref
-- ==== Proof.RefStep.lean ====
/- One level of the reference, read down to arithmetic: its distances, the position of a row's least
   entry, and the row looked up there. -/
module

public import proofs.«01_k».proof.Proof.RefRun
public import proofs.«01_k».proof.Proof.KernelStep
public import Idealize.ShloMosaic.Lib.Routing.Ops
public import Idealize.ShloMosaic.PureOps.Ideal.Laws

@[expose] public section

set_option maxRecDepth 16384

noncomputable section

namespace Cert.Proof.Ref

open Idealize.ShloMosaic Cert.ReferenceIdeal
open Cert.ReferenceIdeal.Facts₀ Cert.ReferenceIdeal.Facts

/-- The reference's distances are the squared distances. -/
theorem refDist_apply (r : FVec Ideal S4096x32 .f32) (c : FVec Ideal S512x32 .f32) (p : Fin 4096) (k : Fin 512) :
    refDist r c (ix2 p k) = dist r c p k := by
  unfold dist
  pointwise [refDist, refDiff]

/-- The order of the (value, position) pairs: by value, then by position. -/
def PairLe (a b : EReal × BitVec 32) : Prop := a.1 < b.1 ∨ (a.1 = b.1 ∧ a.2.toInt ≤ b.2.toInt)

theorem pairLe_refl (a : EReal × BitVec 32) : PairLe a a := .inr ⟨rfl, le_rfl⟩

theorem pairLe_trans {a b c : EReal × BitVec 32} (h : PairLe a b) (h' : PairLe b c) : PairLe a c := by
  rcases h with h | ⟨h, k⟩ <;> rcases h' with h' | ⟨h', k'⟩
  · exact .inl (h.trans h')
  · exact .inl (h' ▸ h)
  · exact .inl (h ▸ h')
  · exact .inr ⟨h.trans h', k.trans k'⟩

/-- The reference's fold step keeps one of its two pairs, and that one is not above either. -/
theorem reducer_spec (a b : EReal × BitVec 32) :
    (reducer_argmin_f32_i32 (F := Ideal) a b = a ∨ reducer_argmin_f32_i32 (F := Ideal) a b = b)
    ∧ PairLe (reducer_argmin_f32_i32 (F := Ideal) a b) a ∧ PairLe (reducer_argmin_f32_i32 (F := Ideal) a b) b := by
  obtain ⟨x, i⟩ := a
  obtain ⟨y, j⟩ := b
  have e : reducer_argmin_f32_i32 (F := Ideal) (x, i) (y, j)
      = if x < y ∨ (x = y ∧ i.toInt < j.toInt) then (x, i) else (y, j) := by
    by_cases h1 : x < y
    · simp [reducer_argmin_f32_i32, Scalar.select, IntOp.ori, IntOp.andi, IntOp.cmpi, Ideal.cmpf_def, Ideal.cmp, h1, h1.ne]
    · by_cases h2 : x = y <;> by_cases h3 : i.toInt < j.toInt <;>
        simp [reducer_argmin_f32_i32, Scalar.select, IntOp.ori, IntOp.andi, IntOp.cmpi, Ideal.cmpf_def, Ideal.cmp, h1, h2, h3,
          BitVec.slt]
  rw [e]
  split
  · rename_i h
    exact ⟨.inl rfl, pairLe_refl _, h.elim .inl fun h => .inr ⟨h.1, h.2.le⟩⟩
  · rename_i h
    push Not at h
    refine ⟨.inr rfl, ?_, pairLe_refl _⟩
    rcases lt_or_eq_of_le h.1 with h' | h'
    · exact .inl h'
    · exact .inr ⟨h', h.2 h'.symm⟩

/-- A fold of that step over a list ends at one of the pairs met, not above any of them. -/
theorem foldl_reducer (l : List (EReal × BitVec 32)) (z : EReal × BitVec 32) :
    (l.foldl (reducer_argmin_f32_i32 (F := Ideal)) z = z ∨ l.foldl (reducer_argmin_f32_i32 (F := Ideal)) z ∈ l)
    ∧ PairLe (l.foldl (reducer_argmin_f32_i32 (F := Ideal)) z) z
    ∧ ∀ q ∈ l, PairLe (l.foldl (reducer_argmin_f32_i32 (F := Ideal)) z) q := by
  induction l generalizing z with
  | nil => exact ⟨.inl rfl, pairLe_refl _, fun q h => nomatch h⟩
  | cons a l ih =>
    obtain ⟨h1, h2, h3⟩ := ih (reducer_argmin_f32_i32 (F := Ideal) z a)
    obtain ⟨s1, s2, s3⟩ := reducer_spec z a
    rw [List.foldl_cons]
    refine ⟨?_, pairLe_trans h2 s2, fun q hq => ?_⟩
    · rcases h1 with h1 | h1
      · rcases s1 with s1 | s1
        · exact .inl (h1.trans s1)
        · exact .inr (List.mem_cons.2 (.inl (h1.trans s1)))
      · exact .inr (List.mem_cons_of_mem _ h1)
    · rcases List.mem_cons.1 hq with rfl | hq
      · exact pairLe_trans h2 s3
      · exact h3 q hq

/-- A position below 512, as a signed 32-bit number. -/
theorem toInt_position (k : Fin 512) : (BitVec.ofNat 32 (k : ℕ)).toInt = (k : ℕ) := by
  rw [BitVec.toInt_eq_toNat_of_lt (by rw [BitVec.toNat_ofNat]; omega), BitVec.toNat_ofNat, Nat.mod_eq_of_lt (by omega)]

/-- The pairs folded over for one row are its entries with their positions. -/
theorem mem_fiber (x : FVec Ideal S4096x512 .f32) (p : Fin 4096) (q : EReal × BitVec 32) :
    q ∈ Host.argReduceFiber (α := Ideal .f32) x (iotaInDim S4096x512 32 1) reducesTo_S4096x512_S4096_d1 (ix1 p)
      ↔ ∃ k : Fin 512, q = (x (ix2 p k), BitVec.ofNat 32 (k : ℕ)) := by
  have hd : ∀ (p : Fin 4096) (k : Fin 512), reducesTo_S4096x512_S4096_d1.drop (ix2 p k) = ix1 p := by
    intro p k
    funext b
    obtain rfl : b = 0 := Subsingleton.elim _ _
    rfl
  simp only [Host.argReduceFiber, List.mem_map, List.mem_filter, List.mem_finRange, true_and, decide_eq_true_eq]
  constructor
  · rintro ⟨n, hn, rfl⟩
    obtain ⟨p', k, e⟩ : ∃ (p' : Fin 4096) (k : Fin 512), S4096x512.rowMajor.symm n = ix2 p' k := ⟨_, _, eq_ix2 _⟩
    rw [e, hd] at hn
    have hp : p' = p := congrFun hn 0
    subst hp
    exact ⟨k, by rw [e]; rfl⟩
  · rintro ⟨k, rfl⟩
    exact ⟨S4096x512.rowMajor (ix2 p k), by rw [Equiv.symm_apply_apply, hd], by rw [Equiv.symm_apply_apply]; rfl⟩

/-- The fold over a row's entries with their positions, from the pair of the top value and zero, ends
    at the first position of the least entry. -/
theorem foldl_nearest (f : Fin 512 → EReal) (l : List (EReal × BitVec 32))
    (hl : ∀ q, q ∈ l ↔ ∃ k : Fin 512, q = (f k, BitVec.ofNat 32 (k : ℕ))) :
    (l.foldl (reducer_argmin_f32_i32 (F := Ideal)) (⊤, 0#32)).2 = BitVec.ofNat 32 (nearest f : ℕ) := by
  have hf := isFirst_nearest f
  obtain ⟨h1, -, h3⟩ := foldl_reducer l (⊤, 0#32)
  generalize l.foldl (reducer_argmin_f32_i32 (F := Ideal)) (⊤, 0#32) = R at h1 h3 ⊢
  have h3' : ∀ k : Fin 512, PairLe R (f k, BitVec.ofNat 32 (k : ℕ)) := fun k => h3 _ ((hl _).2 ⟨k, rfl⟩)
  generalize nearest f = i at hf ⊢
  rcases h1 with rfl | h1
  · have ht : ∀ k : Fin 512, f k = ⊤ := fun k => by
      rcases h3' k with h | h
      · exact absurd h not_top_lt
      · exact h.1.symm
    have h0 : i ≤ 0 := hf.2 0 ((ht 0).trans (ht i).symm)
    rw [Fin.le_zero_iff.1 h0]
    rfl
  · obtain ⟨k, rfl⟩ := (hl _).1 h1
    rcases h3' i with h | ⟨h, h'⟩
    · exact absurd h (not_lt.2 (hf.1 k))
    · have h4 : i ≤ k := hf.2 k h
      have h5 : k ≤ i := by
        have h6 : (BitVec.ofNat 32 (k : ℕ)).toInt ≤ (BitVec.ofNat 32 (i : ℕ)).toInt := h'
        rw [toInt_position, toInt_position] at h6
        exact Fin.le_def.2 (by exact_mod_cast h6)
      rw [le_antisymm h5 h4]

/-- The reference's search finds the first position of a row's least entry. -/
theorem refArgmin_apply (x : FVec Ideal S4096x512 .f32) (p : Fin 4096) :
    refArgmin x (ix1 p) = BitVec.ofNat 32 (nearest fun k => x (ix2 p k) : Fin 512) := by
  have h := foldl_nearest (fun k => x (ix2 p k)) _ (mem_fiber x p)
  have e : (constant (F := Ideal) S_ .f32 0x7F800000#32 (Shape.Idx.first h_S_), constantI S_ 32 0#32 (Shape.Idx.first h_S_))
      = ((⊤, 0#32) : EReal × BitVec 32) := Prod.ext ofBits_top rfl
  have g : refArgmin x = fun j => (Host.reduce2 (reducer_argmin_f32_i32 (F := Ideal)) x (iotaInDim S4096x512 32 1)
      (constant (F := Ideal) S_ .f32 0x7F800000#32) (constantI S_ 32 0#32) reducesTo_S4096x512_S4096_d1 h_S_ j).2 :=
    Eq.trans (b := fun j => (Host.argReduce (F := Ideal) (φ := .f32) (reducer_argmin_f32_i32 (F := Ideal)) x
      (iotaInDim S4096x512 32 1) (constant (F := Ideal) S_ .f32 0x7F800000#32) (constantI S_ 32 0#32)
      reducesTo_S4096x512_S4096_d1 h_S_ j).2) rfl
      (congrArg (fun (u : S4096.Idx → EReal × BitVec 32) j => (u j).2) (Ideal.argReduce_eq_reduce2 _ _ _ _ _ _ _))
  rw [g]
  beta_reduce
  rw [Host.reduce2_eq_foldl_fiber, e]
  exact h

/-- A row number below 512 is taken as it is: not negative. -/
theorem refRows_apply (i : IVec S4096 32) (p : Fin 4096) (b : Fin 512) (h : i (ix1 p) = BitVec.ofNat 32 (b : ℕ)) :
    refRows i (ix2 p 0) = BitVec.ofNat 32 (b : ℕ) := by
  pointwise [refRows]
  rw [h]
  have hn : (BitVec.ofNat 32 (b : ℕ)).slt 0#32 = false := by
    rw [BitVec.slt, toInt_position]; simp
  simp [Scalar.select, IntOp.cmpi, hn]

/-- Such a number is in range. -/
theorem refInside_apply (i : IVec S4096 32) (p : Fin 4096) (b : Fin 512) (h : i (ix1 p) = BitVec.ofNat 32 (b : ℕ)) :
    refInside i (ix1 p) = 1#1 := by
  have hr := refRows_apply i p b h
  unfold refInside
  generalize refRows i = y at hr
  pointwise
  rw [Finset.univ_unique, Finset.fold_singleton]
  change IntOp.andi (IntOp.andi (IntOp.cmpi .sge (y (ix2 p 0)) 0#32) (IntOp.cmpi .sle (y (ix2 p 0)) 511#32)) 1#1 = 1#1
  rw [hr]
  have h0 : (0#32).sle (BitVec.ofNat 32 (b : ℕ)) = true := by
    rw [BitVec.sle, toInt_position]; simp
  have h1 : (BitVec.ofNat 32 (b : ℕ)).sle 511#32 = true := by
    rw [BitVec.sle, toInt_position]
    have : (511#32).toInt = 511 := by decide
    rw [this]
    exact decide_eq_true (by omega)
  simp [IntOp.andi, IntOp.cmpi, h0, h1]

/-- The lookup of rows at numbers below 512 takes those rows. -/
theorem refTake_apply (c : FVec Ideal S512x32 .f32) (i : IVec S4096 32) (p : Fin 4096) (d : Fin 32) (b : Fin 512)
    (h : i (ix1 p) = BitVec.ofNat 32 (b : ℕ)) : refTake c i (ix2 p d) = c (ix2 b d) := by
  have hg : Host.gather gather_S512x32_S4096x1_S4096x32_1_0_n_n_0_1_132 c (refRows i) (ix2 p d) = c (ix2 b d) :=
    Routing.gather_row _ rfl rfl rfl rfl rfl c (refRows i) p d b (refRows_apply i p b h) (by omega)
  have hm := refInside_apply i p b h
  unfold refTake
  generalize refInside i = u at hm
  generalize Host.gather gather_S512x32_S4096x1_S4096x32_1_0_n_n_0_1_132 c (refRows i) = g at hg
  pointwise
  rw [hm, hg]
  rfl

/-- The reference's level takes the nearest code vector of every residual row. -/
theorem refChosen_eq (r : FVec Ideal S4096x32 .f32) (c : FVec Ideal S512x32 .f32) : refChosen r c = chosenOf r c := by
  funext j
  obtain ⟨p, d, rfl⟩ : ∃ (p : Fin 4096) (d : Fin 32), j = ix2 p d := ⟨j 0, j 1, eq_ix2 j⟩
  unfold refChosen
  rw [refTake_apply c _ p d _ (refArgmin_apply _ p)]
  unfold chosenOf
  congr 2
  exact congrArg nearest (funext fun k => refDist_apply r c p k)

end Cert.Proof.Ref
-- ==== Proof.KernelEntry.lean ====
/- What the body is given: the prepared codebooks, read entry by entry; and the arrays it reads and leaves. -/
module

public import proofs.«01_k».proof.Proof.KernelRun
public import Idealize.ShloMosaic.Lib.StableHlo.RunRead
public import proofs.«01_k».proof.Proof.RefStep

@[expose] public section

set_option maxRecDepth 16384

noncomputable section

namespace Cert.Proof

open Idealize.ShloMosaic Idealize.ShloMosaic.Pipeline Cert.KernelIdeal Cert.KernelIdeal.Gen
open Idealize.ShloMosaic.TcCoe Idealize.SL.Sem

variable (m : (ℓ : Loc nD τ sig) → Buf (Elt Ideal) ℓ)

/-- The first result array holds the first result block. -/
theorem arr_total (c : Dev nD) (t : Fin cfg0.N) : (dats m 0 c).arrAt 4 cfg0.N = (outsAt0 m c t).1 := by
  refine (dats m 0 c).arrAt_eq_of_covers 4 _ (by decide +kernel) fun t' hf y => ?_
  rw [after0_4]
  obtain rfl : t' = t := (fin_N0 t').trans (fin_N0 t).symm
  blk_simp
  refine congrArg _ (funext fun a => Fin.ext ?_)
  have h : ∀ t a, win0_4.index t a = 0 := by decide +kernel
  blk_simp
  rw [h, Nat.zero_mul, Nat.zero_add]

/-- The second result array holds the second result block. -/
theorem arr_levels (c : Dev nD) (t : Fin cfg0.N) : (dats m 0 c).arrAt 5 cfg0.N = (outsAt0 m c t).2.1 := by
  refine (dats m 0 c).arrAt_eq_of_covers 5 _ (by decide +kernel) fun t' hf y => ?_
  rw [after0_5]
  obtain rfl : t' = t := (fin_N0 t').trans (fin_N0 t).symm
  blk_simp
  refine congrArg _ (funext fun a => Fin.ext ?_)
  have h : ∀ t a, win0_5.index t a = 0 := by decide +kernel
  blk_simp
  rw [h, Nat.zero_mul, Nat.zero_add]

/-- The third result array holds the third result block. -/
theorem arr_loss (c : Dev nD) (t : Fin cfg0.N) : (dats m 0 c).arrAt 6 cfg0.N = (outsAt0 m c t).2.2 := by
  refine (dats m 0 c).arrAt_eq_of_covers 6 _ (by decide +kernel) fun t' hf y => ?_
  rw [after0_6]
  obtain rfl : t' = t := (fin_N0 t').trans (fin_N0 t).symm
  blk_simp
  refine congrArg _ (funext fun a => Fin.ext ?_)
  have h : ∀ t a, win0_6.index t a = 0 := by decide +kernel
  blk_simp
  rw [h, Nat.zero_mul, Nat.zero_add]

/-- The first input block is the whole array. -/
theorem blk_0 (c : Dev nD) (t : Fin cfg0.N) : iblk m c 0 t = V m c main_arg0 := by
  funext y
  blk_simp [iblk]
  refine congrArg _ (funext fun a => Fin.ext ?_)
  have h : ∀ t a, win0_0.index t a = 0 := by decide +kernel
  blk_simp
  rw [h, Nat.zero_mul, Nat.zero_add]

/-- The second input block is the whole array. -/
theorem blk_1 (c : Dev nD) (t : Fin cfg0.N) : iblk m c 1 t = V m c main_call0_v7 := by
  funext y
  blk_simp [iblk]
  refine congrArg _ (funext fun a => Fin.ext ?_)
  have h : ∀ t a, win0_1.index t a = 0 := by decide +kernel
  blk_simp
  rw [h, Nat.zero_mul, Nat.zero_add]

/-- The third input block is the whole array. -/
theorem blk_2 (c : Dev nD) (t : Fin cfg0.N) : iblk m c 2 t = V m c main_call0_v18 := by
  funext y
  blk_simp [iblk]
  refine congrArg _ (funext fun a => Fin.ext ?_)
  have h : ∀ t a, win0_2.index t a = 0 := by decide +kernel
  blk_simp
  rw [h, Nat.zero_mul, Nat.zero_add]

/-- The fourth input block is the whole array. -/
theorem blk_3 (c : Dev nD) (t : Fin cfg0.N) : iblk m c 3 t = V m c main_call0_v22 := by
  funext y
  blk_simp [iblk]
  refine congrArg _ (funext fun a => Fin.ext ?_)
  have h : ∀ t a, win0_3.index t a = 0 := by decide +kernel
  blk_simp
  rw [h, Nat.zero_mul, Nat.zero_add]

/-- What rounding to sixteen bits leaves over. -/
def remainder {s : Shape} (x : FVec Ideal s .f32) : FVec Ideal s .f32 :=
  subf x (extf .f32 (truncf .bf16 x bitsLt_bf16_f32) bitsLt_bf16_f32)

/-- The codebooks in three summands side by side: each is what the ones before it leave. -/
def sideBySide (x : FVec Ideal S4x512x32 .f32) : Vec Ideal S4x512x96 .bf16 :=
  concatenate S4x512x96 2 [⟨S4x512x32, truncf .bf16 x bitsLt_bf16_f32⟩,
    ⟨S4x512x32, truncf .bf16 (remainder x) bitsLt_bf16_f32⟩,
    ⟨S4x512x32, truncf .bf16 (remainder (remainder x)) bitsLt_bf16_f32⟩]
    concatenates_S4x512x32_S4x512x32_S4x512x32_S4x512x96_d2

/-- Minus twice the transposed codebooks. -/
def minusTwice (x : FVec Ideal S4x512x32 .f32) : FVec Ideal S4x32x512 .f32 :=
  mulf (transpose S4x32x512 [0, 2, 1] x transposes_S4x512x32_S4x32x512_0_2_1)
    (broadcastInDim S4x32x512 ![] bcast_S_S4x32x512 (constant (F := Ideal) S_ .f32 0xC0000000#32))

/-- The summands of minus twice the transposed codebooks, stacked in six blocks. -/
def sixBlocks (x : FVec Ideal S4x512x32 .f32) : Vec Ideal S4x192x512 .bf16 :=
  concatenate S4x192x512 1 [⟨S4x32x512, truncf .bf16 (minusTwice x) bitsLt_bf16_f32⟩,
    ⟨S4x32x512, truncf .bf16 (remainder (minusTwice x)) bitsLt_bf16_f32⟩,
    ⟨S4x32x512, truncf .bf16 (minusTwice x) bitsLt_bf16_f32⟩,
    ⟨S4x32x512, truncf .bf16 (remainder (remainder (minusTwice x))) bitsLt_bf16_f32⟩,
    ⟨S4x32x512, truncf .bf16 (minusTwice x) bitsLt_bf16_f32⟩,
    ⟨S4x32x512, truncf .bf16 (remainder (minusTwice x)) bitsLt_bf16_f32⟩]
    concatenates_S4x32x512_S4x32x512_S4x32x512_S4x32x512_S4x32x512_S4x32x512_S4x192x512_d1

/-- The square norms of the code vectors. -/
def norms (x : FVec Ideal S4x512x32 .f32) : Vec Ideal S4x1x512 .f32 :=
  broadcastInDim S4x1x512 ![0, 2] bcast_S4x512_S4x1x512_0_2
    (Host.reduceAdd (mulf (transpose S4x32x512 [0, 2, 1] x transposes_S4x512x32_S4x32x512_0_2_1)
      (transpose S4x32x512 [0, 2, 1] x transposes_S4x512x32_S4x32x512_0_2_1)) (constant S_ .f32 0x00000000#32)
      reducesTo_S4x32x512_S4x512_d1 h_S_)

/-- The lines before the body leave the codebooks' three summands side by side. -/
theorem entry_sideBySide (c : Dev nD) : V m c main_call0_v7 = sideBySide (V m c main_arg1) := by
  rw [V_main_arg1]
  show StableHlo.after (List.flatten [hostOps0]) (fun b => m (c, b)) (Proc.devRef .tc main_call0_v7) = _
  rw [List.flatten_cons, List.flatten_nil, List.append_nil, hostOps0]
  after_reads_simp
  simp only [StableHlo.TRef.ofBuf_toBuf, Matrix.cons_val]
  rfl

/-- The lines before the body leave the six blocks. -/
theorem entry_sixBlocks (c : Dev nD) : V m c main_call0_v18 = sixBlocks (V m c main_arg1) := by
  rw [V_main_arg1]
  show StableHlo.after (List.flatten [hostOps0]) (fun b => m (c, b)) (Proc.devRef .tc main_call0_v18) = _
  rw [List.flatten_cons, List.flatten_nil, List.append_nil, hostOps0]
  after_reads_simp
  simp only [StableHlo.TRef.ofBuf_toBuf, Matrix.cons_val]
  rfl

/-- The lines before the body leave the square norms. -/
theorem entry_norms (c : Dev nD) : V m c main_call0_v22 = norms (V m c main_arg1) := by
  rw [V_main_arg1]
  show StableHlo.after (List.flatten [hostOps0]) (fun b => m (c, b)) (Proc.devRef .tc main_call0_v22) = _
  rw [List.flatten_cons, List.flatten_nil, List.append_nil, hostOps0]
  after_reads_simp
  simp only [StableHlo.TRef.ofBuf_toBuf]
  rfl

/-- A finite entry less itself is zero. -/
theorem sub_self_of_finite {s : Shape} {x : s.Idx → EReal} (hx : Finite x) (i : s.Idx) : x i - x i = 0 := by
  obtain ⟨y, hy⟩ := hx
  rw [hy i, ← EReal.coe_sub, sub_self, EReal.coe_zero]

/-- The word of minus two. -/
theorem ofBits_neg_two : Ideal.ofBits .f32 0xC0000000#32 = ((-2 : ℝ) : EReal) := by
  simp [Ideal.ofBits, Ideal.ieee, -EReal.coe_mul]; norm_num

/-- Minus twice a finite entry, less itself, is zero. -/
theorem twice_sub_self {s : Shape} {x : s.Idx → EReal} (hx : Finite x) (i : s.Idx) :
    x i * ((-2 : ℝ) : EReal) - x i * ((-2 : ℝ) : EReal) = 0 := by
  obtain ⟨y, hy⟩ := hx
  rw [hy i, ← EReal.coe_mul, ← EReal.coe_sub, sub_self, EReal.coe_zero]

/-- An entry of the summands side by side. -/
theorem sideBySide_apply (x : FVec Ideal S4x512x32 .f32) (l : Fin 4) (k : Fin 512) (j : Fin 96) :
    sideBySide x (ix3 l k j) = if h : (j : ℕ) < 32 then x (ix3 l k ⟨j, h⟩)
      else if h : (j : ℕ) - 32 < 32 then x (ix3 l k ⟨(j : ℕ) - 32, h⟩) - x (ix3 l k ⟨(j : ℕ) - 32, h⟩)
      else x (ix3 l k ⟨(j : ℕ) - 32 - 32, by omega⟩) - x (ix3 l k ⟨(j : ℕ) - 32 - 32, by omega⟩)
        - (x (ix3 l k ⟨(j : ℕ) - 32 - 32, by omega⟩) - x (ix3 l k ⟨(j : ℕ) - 32 - 32, by omega⟩)) := by
  pointwise [sideBySide, remainder]

/-- An entry of the first four of the six blocks. -/
theorem sixBlocks_apply (x : FVec Ideal S4x512x32 .f32) (l : Fin 4) (k : Fin 512) (j : Fin 192) (hj : (j : ℕ) < 128) :
    sixBlocks x (ix3 l j k) = if h : (j : ℕ) < 32 then x (ix3 l k ⟨j, h⟩) * ((-2 : ℝ) : EReal)
      else if h : (j : ℕ) - 32 < 32 then x (ix3 l k ⟨(j : ℕ) - 32, h⟩) * ((-2 : ℝ) : EReal)
        - x (ix3 l k ⟨(j : ℕ) - 32, h⟩) * ((-2 : ℝ) : EReal)
      else if h : (j : ℕ) - 32 - 32 < 32 then x (ix3 l k ⟨(j : ℕ) - 32 - 32, h⟩) * ((-2 : ℝ) : EReal)
      else x (ix3 l k ⟨(j : ℕ) - 32 - 32 - 32, by omega⟩) * ((-2 : ℝ) : EReal)
        - x (ix3 l k ⟨(j : ℕ) - 32 - 32 - 32, by omega⟩) * ((-2 : ℝ) : EReal)
        - (x (ix3 l k ⟨(j : ℕ) - 32 - 32 - 32, by omega⟩) * ((-2 : ℝ) : EReal)
          - x (ix3 l k ⟨(j : ℕ) - 32 - 32 - 32, by omega⟩) * ((-2 : ℝ) : EReal)) := by
  have h3 : (j : ℕ) - 32 - 32 - 32 < 32 := by omega
  rw [← ofBits_neg_two]
  pointwise [sixBlocks, remainder, minusTwice]
  split_ifs <;> rfl

/-- An entry of the square norms. -/
theorem norms_apply (x : FVec Ideal S4x512x32 .f32) (l : Fin 4) (k : Fin 512) :
    norms x (ix3 l 0 k) = ∑ d : Fin 32, x (ix3 l k d) * x (ix3 l k d) := by
  pointwise [norms]

/-- What a level's body is given, from the prepared arrays at that level. -/
theorem holds_of {x : FVec Ideal S4x512x32 .f32} (hx : Finite x) (l : Fin 4) {c : FVec Ideal Codes .f32}
    {a : Vec Ideal S1x512x96 .bf16} {b : Vec Ideal S1x192x512 .bf16} {n : Vec Ideal S1x1x512 .f32}
    (hc : ∀ k d, c (ix2 k d) = x (ix3 l k d)) (ha : ∀ k j, a (ix3 0 k j) = sideBySide x (ix3 l k j))
    (hb : ∀ j k, b (ix3 0 j k) = sixBlocks x (ix3 l j k)) (hn : ∀ k, n (ix3 0 0 k) = norms x (ix3 l 0 k)) :
    Holds c a b n where
  a0 k d := by rw [ha, sideBySide_apply, hc, dif_pos d.isLt]
  a1 k d := by
    rw [ha, sideBySide_apply, dif_neg (by simp), dif_pos (by simp), sub_self_of_finite hx]
  a2 k d := by
    rw [ha, sideBySide_apply, dif_neg (by simp; omega), dif_neg (by simp; omega), sub_self_of_finite hx, sub_zero]
  b0 k d := by
    rw [hb, sixBlocks_apply _ _ _ _ (by simp; omega), hc, dif_pos (by simp)]
    simp
  b1 k d := by
    rw [hb, sixBlocks_apply _ _ _ _ (by simp; omega), dif_neg (by simp), dif_pos (by simp), twice_sub_self hx]
  b3 k d := by
    rw [hb, sixBlocks_apply _ _ _ _ (by simp; omega), dif_neg (by simp; omega), dif_neg (by simp; omega),
      dif_neg (by simp; omega), twice_sub_self hx, sub_zero]
  n0 k := by rw [hn, norms_apply]; simp only [hc]

/-- Level 0's code vectors, entry by entry. -/
theorem codes0_apply (x : FVec Ideal S4x512x32 .f32) (k : Fin 512) (d : Fin 32) :
    Ref.codes Ref.cut0 x (ix2 k d) = x (ix3 0 k d) := by
  pointwise [Ref.codes]

/-- Level 1's code vectors, entry by entry. -/
theorem codes1_apply (x : FVec Ideal S4x512x32 .f32) (k : Fin 512) (d : Fin 32) :
    Ref.codes Ref.cut1 x (ix2 k d) = x (ix3 1 k d) := by
  pointwise [Ref.codes]

/-- Level 2's code vectors, entry by entry. -/
theorem codes2_apply (x : FVec Ideal S4x512x32 .f32) (k : Fin 512) (d : Fin 32) :
    Ref.codes Ref.cut2 x (ix2 k d) = x (ix3 2 k d) := by
  pointwise [Ref.codes]

/-- Level 3's code vectors, entry by entry. -/
theorem codes3_apply (x : FVec Ideal S4x512x32 .f32) (k : Fin 512) (d : Fin 32) :
    Ref.codes Ref.cut3 x (ix2 k d) = x (ix3 3 k d) := by
  pointwise [Ref.codes]

/-- Any level's code vectors of finite codebooks are finite. -/
theorem finite_codes {x : FVec Ideal S4x512x32 .f32} (hx : Finite x) (l : Fin 4) {c : FVec Ideal Codes .f32}
    (hc : ∀ k d, c (ix2 k d) = x (ix3 l k d)) : Finite c := by
  obtain ⟨y, hy⟩ := hx
  refine ⟨fun i => y (ix3 l (i 0) (i 1)), fun i => ?_⟩
  obtain ⟨k, d, rfl⟩ : ∃ (k : Fin 512) (d : Fin 32), i = ix2 k d := ⟨i 0, i 1, eq_ix2 i⟩
  rw [hc, hy]
  rfl

/-- Level 0's body is given level 0 of the prepared arrays. -/
theorem holds0 {x : FVec Ideal S4x512x32 .f32} (hx : Finite x) : Holds (Ref.codes Ref.cut0 x)
    (View.ld (sideBySide x) (Rect.unit ![0, 0, 0] ![1, 512, 96] inb_S4x512x96_S1x512x96_0_0_0))
    (View.ld (sixBlocks x) (Rect.unit ![0, 0, 0] ![1, 192, 512] inb_S4x192x512_S1x192x512_0_0_0))
    (View.ld (norms x) (Rect.unit ![0, 0, 0] ![1, 1, 512] inb_S4x1x512_S1x1x512_0_0_0)) := by
  refine holds_of hx 0 (codes0_apply x) (fun k j => congrArg (sideBySide x) (funext fun a => Fin.ext ?_))
    (fun j k => congrArg (sixBlocks x) (funext fun a => Fin.ext ?_))
    fun k => congrArg (norms x) (funext fun a => Fin.ext ?_)
  all_goals fin_cases a <;> simp [Rect.unit]

/-- Level 1's body is given level 1 of the prepared arrays. -/
theorem holds1 {x : FVec Ideal S4x512x32 .f32} (hx : Finite x) : Holds (Ref.codes Ref.cut1 x)
    (View.ld (sideBySide x) (Rect.unit ![1, 0, 0] ![1, 512, 96] inb_S4x512x96_S1x512x96_1_0_0))
    (View.ld (sixBlocks x) (Rect.unit ![1, 0, 0] ![1, 192, 512] inb_S4x192x512_S1x192x512_1_0_0))
    (View.ld (norms x) (Rect.unit ![1, 0, 0] ![1, 1, 512] inb_S4x1x512_S1x1x512_1_0_0)) := by
  refine holds_of hx 1 (codes1_apply x) (fun k j => congrArg (sideBySide x) (funext fun a => Fin.ext ?_))
    (fun j k => congrArg (sixBlocks x) (funext fun a => Fin.ext ?_))
    fun k => congrArg (norms x) (funext fun a => Fin.ext ?_)
  all_goals fin_cases a <;> simp [Rect.unit]

/-- Level 2's body is given level 2 of the prepared arrays. -/
theorem holds2 {x : FVec Ideal S4x512x32 .f32} (hx : Finite x) : Holds (Ref.codes Ref.cut2 x)
    (View.ld (sideBySide x) (Rect.unit ![2, 0, 0] ![1, 512, 96] inb_S4x512x96_S1x512x96_2_0_0))
    (View.ld (sixBlocks x) (Rect.unit ![2, 0, 0] ![1, 192, 512] inb_S4x192x512_S1x192x512_2_0_0))
    (View.ld (norms x) (Rect.unit ![2, 0, 0] ![1, 1, 512] inb_S4x1x512_S1x1x512_2_0_0)) := by
  refine holds_of hx 2 (codes2_apply x) (fun k j => congrArg (sideBySide x) (funext fun a => Fin.ext ?_))
    (fun j k => congrArg (sixBlocks x) (funext fun a => Fin.ext ?_))
    fun k => congrArg (norms x) (funext fun a => Fin.ext ?_)
  all_goals fin_cases a <;> simp [Rect.unit]

/-- Level 3's body is given level 3 of the prepared arrays. -/
theorem holds3 {x : FVec Ideal S4x512x32 .f32} (hx : Finite x) : Holds (Ref.codes Ref.cut3 x)
    (View.ld (sideBySide x) (Rect.unit ![3, 0, 0] ![1, 512, 96] inb_S4x512x96_S1x512x96_3_0_0))
    (View.ld (sixBlocks x) (Rect.unit ![3, 0, 0] ![1, 192, 512] inb_S4x192x512_S1x192x512_3_0_0))
    (View.ld (norms x) (Rect.unit ![3, 0, 0] ![1, 1, 512] inb_S4x1x512_S1x1x512_3_0_0)) := by
  refine holds_of hx 3 (codes3_apply x) (fun k j => congrArg (sideBySide x) (funext fun a => Fin.ext ?_))
    (fun j k => congrArg (sixBlocks x) (funext fun a => Fin.ext ?_))
    fun k => congrArg (norms x) (funext fun a => Fin.ext ?_)
  all_goals fin_cases a <;> simp [Rect.unit]

/-- The body's inputs, when both arguments are finite. -/
theorem given_of {x : FVec Ideal S4096x32 .f32} {y : FVec Ideal S4x512x32 .f32} (hx : Finite x) (hy : Finite y) :
    Given x (sideBySide y) (sixBlocks y) (norms y) (Ref.codes Ref.cut0 y) (Ref.codes Ref.cut1 y)
      (Ref.codes Ref.cut2 y) (Ref.codes Ref.cut3 y) where
  hx := hx
  f0 := finite_codes hy 0 (codes0_apply y)
  f1 := finite_codes hy 1 (codes1_apply y)
  f2 := finite_codes hy 2 (codes2_apply y)
  f3 := finite_codes hy 3 (codes3_apply y)
  h0 := holds0 hy
  h1 := holds1 hy
  h2 := holds2 hy
  h3 := holds3 hy

end Cert.Proof
-- ==== Proof.Equation.lean ====
/- The kernel's three results against the reference's, as functions of the four levels' rows and residuals; and
   the precondition as finiteness. -/
module

public import proofs.«01_k».proof.Proof.KernelRun
public import Idealize.ShloMosaic.Lib.StableHlo.RunRead
public import proofs.«01_k».proof.Proof.RefStep
public import proofs.«01_k».proof.Proof.Gen.Pre_all_finite
public import Idealize.ShloMosaic.Lib.ReduceAll

@[expose] public section

set_option maxRecDepth 16384

noncomputable section

namespace Cert.Proof

open Idealize.ShloMosaic Idealize.ShloMosaic.Pipeline Cert.KernelIdeal Cert.KernelIdeal.Gen
open Idealize.ShloMosaic.TcCoe Idealize.SL.Sem

/-- An entry whose absolute value is below the positive infinity is a real number. -/
theorem real_of_abs_lt {s : Shape} {x : FVec Ideal s .f32}
    (h : ∀ i, BitVec.ofBool (decide (FloatOps.absf (x i) < Ideal.ofBits .f32 0x7F800000#32)) = 1#1) : Finite x := by
  refine ⟨fun i => (x i).toReal, fun i => (EReal.coe_toReal ?_ ?_).symm⟩ <;> intro hx
  all_goals
    have h' := h i
    rw [hx, ofBits_top] at h'
    exact absurd h' (by simp [FloatOps.absf])

/-- The precondition makes both arguments finite. -/
theorem finite_of_pre {x : FVec Ideal S4096x32 .f32} {y : FVec Ideal S4x512x32 .f32}
    (h : Cert.Pre_all_finite.fn (F := Ideal) x y = fun _ => 1#1) : Finite x ∧ Finite y := by
  have h' := congrFun h ix0
  dsimp only [Cert.Pre_all_finite.fn] at h'
  have hb := IntOp.andi_eq_one.1 h'
  refine ⟨real_of_abs_lt fun i => ?_, real_of_abs_lt fun i => ?_⟩
  · exact Host.reduce_andi_all _ _ _ _ _ hb.1 i
  · exact Host.reduce_andi_all _ _ _ _ _ hb.2 i

/-- The four rows added from zero are the sum over the stack. -/
theorem total_eq (q0 q1 q2 q3 : FVec Ideal S4096x32 .f32) :
    addf (addf (addf (addf k0_pay5 q0) q1) q2) q3 = Ref.refTotal (Ref.refStack q0 q1 q2 q3) := by
  funext j
  obtain ⟨p, d, rfl⟩ : ∃ (p : Fin 4096) (d : Fin 32), j = ix2 p d := ⟨j 0, j 1, eq_ix2 j⟩
  pointwise [k0_pay5, Ref.refTotal, Ref.refStack]
  rw [Fin.sum_univ_four]
  simp

/-- An entry of the stack. -/
theorem refStack_apply (q0 q1 q2 q3 : FVec Ideal S4096x32 .f32) (l : Fin 4) (p : Fin 4096) (d : Fin 32) :
    Ref.refStack q0 q1 q2 q3 (ix3 l p d) = ![q0, q1, q2, q3] l (ix2 p d) := by
  pointwise [Ref.refStack]
  fin_cases l <;> simp

/-- A row stored as one level of the second result. -/
theorem stored_apply (q : FVec Ideal S4096x32 .f32) (z : Fin 1) (p : Fin 4096) (d : Fin 32) :
    k0_pay7 q (ix3 z p d) = q (ix2 p d) := by
  pointwise [k0_pay7]

/-- One stored level against the stack. -/
theorem stored_eq (q0 q1 q2 q3 : FVec Ideal S4096x32 .f32) (l : Fin 4) {x : S1x4096x32.Idx} {j : S4x4096x32.Idx}
    (h0 : (j 0 : ℕ) = l + (x 0 : ℕ)) (h1 : (j 1 : ℕ) = (x 1 : ℕ)) (h2 : (j 2 : ℕ) = (x 2 : ℕ)) :
    k0_pay7 (![q0, q1, q2, q3] l) x = Ref.refStack q0 q1 q2 q3 j := by
  obtain ⟨z, p, d, rfl⟩ : ∃ (z : Fin 1) (p : Fin 4096) (d : Fin 32), x = ix3 z p d := ⟨x 0, x 1, x 2, eq_ix3 x⟩
  have hj : j = ix3 l p d := by
    rw [eq_ix3 j]
    congr 1
    · exact Fin.ext (h0.trans (by simp [ix3]))
    · exact Fin.ext h1
    · exact Fin.ext h2
  rw [hj, stored_apply, refStack_apply]

/-- The four stored levels are the stack. -/
theorem levels_eq (q0 q1 q2 q3 : FVec Ideal S4096x32 .f32) :
    View.canon (s := S4x4096x32) (Val := Elt Ideal) (e := .f32)
      [⟨Rect.unit ![3, 0, 0] ![1, 4096, 32] inb_S4x4096x32_S1x4096x32_3_0_0, k0_pay7 q3⟩,
        ⟨Rect.unit ![2, 0, 0] ![1, 4096, 32] inb_S4x4096x32_S1x4096x32_2_0_0, k0_pay7 q2⟩,
        ⟨Rect.unit ![1, 0, 0] ![1, 4096, 32] inb_S4x4096x32_S1x4096x32_1_0_0, k0_pay7 q1⟩,
        ⟨Rect.unit ![0, 0, 0] ![1, 4096, 32] inb_S4x4096x32_S1x4096x32_0_0_0, k0_pay7 q0⟩]
      = Ref.refStack q0 q1 q2 q3 := by
  funext j
  canon_tiles x h
  · exact stored_eq q0 q1 q2 q3 3 h0 h1 h2
  · exact stored_eq q0 q1 q2 q3 2 h0 h1 h2
  · exact stored_eq q0 q1 q2 q3 1 h0 h1 h2
  · exact stored_eq q0 q1 q2 q3 0 (h0.trans (Nat.zero_add _).symm) h1 h2

/-- The kernel's sum of squares is the sum over all entries. -/
theorem squares_eq (r : FVec Ideal S4096x32 .f32) :
    squares r = ∑ p : Fin 4096, ∑ d : Fin 32, r (ix2 p d) * r (ix2 p d) := by
  pointwise [squares]

/-- The word of the number of entries. -/
theorem ofBits_count : Ideal.ofBits .f32 0x48000000#32 = ((131072 : ℝ) : EReal) := by
  simp [Ideal.ofBits, Ideal.ieee, -EReal.coe_mul]; norm_num

/-- The reference's mean is the kernel's sum of squares over the number of entries. -/
theorem mean_eq (r : FVec Ideal S4096x32 .f32) :
    Ref.refMean r = fun _ => Ideal.div (squares r) (Ideal.ofBits .f32 0x48000000#32) := by
  funext j
  rw [squares_eq]
  pointwise [Ref.refMean]

/-- The sum of squares of a finite residual is a real number. -/
theorem squares_real {r : FVec Ideal S4096x32 .f32} (hr : Finite r) : ∃ s : ℝ, squares r = ((s : ℝ) : EReal) := by
  obtain ⟨y, hy⟩ := hr
  refine ⟨∑ p : Fin 4096, ∑ d : Fin 32, y (ix2 p d) * y (ix2 p d), ?_⟩
  rw [squares_eq, ← sum_coe]
  refine Finset.sum_congr rfl fun p _ => ?_
  rw [← sum_coe]
  exact Finset.sum_congr rfl fun d _ => by rw [hy, EReal.coe_mul]

/-- Dividing the four sums together or one by one gives the same loss. -/
theorem loss_eq {r1 r2 r3 r4 : FVec Ideal S4096x32 .f32} (h1 : Finite r1) (h2 : Finite r2) (h3 : Finite r3)
    (h4 : Finite r4) :
    (fun _ => Ideal.div (0 + ((((0 + squares r1) + squares r2) + squares r3) + squares r4))
      (Ideal.ofBits .f32 0x48000000#32))
      = addf (addf (addf (addf (constant (F := Ideal) Cert.ReferenceIdeal.S_ .f32 0x00000000#32) (Ref.refMean r1)) (Ref.refMean r2)) (Ref.refMean r3))
          (Ref.refMean r4) := by
  obtain ⟨s1, e1⟩ := squares_real h1
  obtain ⟨s2, e2⟩ := squares_real h2
  obtain ⟨s3, e3⟩ := squares_real h3
  obtain ⟨s4, e4⟩ := squares_real h4
  funext j
  rw [mean_eq, mean_eq, mean_eq, mean_eq, e1, e2, e3, e4, ofBits_count]
  pointwise []
  simp only [Ideal.div_coe (by norm_num : (131072 : ℝ) ≠ 0), zero_add]
  norm_cast
  ring

end Cert.Proof
-- ==== Proof.KernelEnd.lean ====
/- The kernel's run from finite arguments, ending at the reference's three results. -/
module

public import proofs.«01_k».proof.Proof.KernelEntry
public import proofs.«01_k».proof.Proof.Equation

@[expose] public section

set_option maxRecDepth 16384

noncomputable section

namespace Cert.Proof

open Idealize.ShloMosaic Idealize.ShloMosaic.Pipeline Cert.KernelIdeal Cert.KernelIdeal.Gen
open Idealize.ShloMosaic.TcCoe Idealize.SL.Sem

variable (m : (ℓ : Loc nD τ sig) → Buf (Elt Ideal) ℓ)

/-- The body's inputs at a launch whose arguments are finite. -/
theorem given (c : Dev nD) (t : Fin cfg0.N) (hx : Finite (s := S4096x32) (m ((c : Thread nD τ).loc main_arg0)))
    (hy : Finite (s := S4x512x32) (m ((c : Thread nD τ).loc main_arg1))) :
    Given (iblk m c 0 t) (iblk m c 1 t) (iblk m c 2 t) (iblk m c 3 t)
      (Ref.codes Ref.cut0 (m ((c : Thread nD τ).loc main_arg1))) (Ref.codes Ref.cut1 (m ((c : Thread nD τ).loc main_arg1)))
      (Ref.codes Ref.cut2 (m ((c : Thread nD τ).loc main_arg1)))
      (Ref.codes Ref.cut3 (m ((c : Thread nD τ).loc main_arg1))) := by
  rw [blk_0, blk_1, blk_2, blk_3, entry_sideBySide, entry_sixBlocks, entry_norms, V_main_arg0, V_main_arg1]
  exact given_of hx hy

/-- The reference's next residual is what the level leaves. -/
theorem refNext_eq (r : FVec Ideal S4096x32 .f32) (c : FVec Ideal Codes .f32) : Ref.refNext r c = left r c := by
  show subf r (Ref.refChosen r c) = _
  rw [Ref.refChosen_eq]
  rfl

/-- The reference's four rows, stacked, in the kernel's terms. -/
theorem refLevels_eq (x : FVec Ideal S4096x32 .f32) (y : FVec Ideal S4x512x32 .f32) :
    Ref.refLevels x y = Ref.refStack (chosenOf x (Ref.codes Ref.cut0 y))
      (chosenOf (left x (Ref.codes Ref.cut0 y)) (Ref.codes Ref.cut1 y))
      (chosenOf (left (left x (Ref.codes Ref.cut0 y)) (Ref.codes Ref.cut1 y)) (Ref.codes Ref.cut2 y))
      (chosenOf (left (left (left x (Ref.codes Ref.cut0 y)) (Ref.codes Ref.cut1 y)) (Ref.codes Ref.cut2 y))
        (Ref.codes Ref.cut3 y)) := by
  simp only [Ref.refLevels, Ref.res3, Ref.res2, Ref.res1, Ref.res0, refNext_eq, Ref.refChosen_eq]

/-- The first result array. -/
theorem total_final (c : Dev nD) (hx : Finite (s := S4096x32) (m ((c : Thread nD τ).loc main_arg0)))
    (hy : Finite (s := S4x512x32) (m ((c : Thread nD τ).loc main_arg1))) : (dats m 0 c).arrAt 4 cfg0.N
      = Ref.refTotal (Ref.refLevels (m ((c : Thread nD τ).loc main_arg0)) (m ((c : Thread nD τ).loc main_arg1))) := by
  rw [arr_total m c t0_0, out_total m c t0_0 (given m c t0_0 hx hy), total_eq, refLevels_eq, blk_0, V_main_arg0]

/-- The second result array. -/
theorem levels_final (c : Dev nD) (hx : Finite (s := S4096x32) (m ((c : Thread nD τ).loc main_arg0)))
    (hy : Finite (s := S4x512x32) (m ((c : Thread nD τ).loc main_arg1))) : (dats m 0 c).arrAt 5 cfg0.N
      = Ref.refLevels (m ((c : Thread nD τ).loc main_arg0)) (m ((c : Thread nD τ).loc main_arg1)) := by
  rw [arr_levels m c t0_0, out_levels m c t0_0 (given m c t0_0 hx hy), levels_eq, refLevels_eq, blk_0, V_main_arg0]

/-- What the lines after the body make of the third result array: its entry over the number of entries. -/
theorem tail_loss (c : Dev nD) : afterTail₀ cfgs (dats m) 0 (V0 m) [hostOps1] c main_v0_2
    = Host.divf (F := Ideal) (φ := .f32) (shapeCast S_ ((dats m 0 c).arrAt 6 cfg0.N : Vec Ideal S1 .f32) shapeCasts_S1_S_)
        (constant (F := Ideal) S_ .f32 0x48000000#32) := by
  unfold afterTail₀
  rw [List.flatten_cons, List.flatten_nil, List.append_nil, hostOps1]
  after_reads_simp
  have h : withArrays (cfgs 0).spec c (V0 m c) (fun w => (dats m 0 c).arrAt w (cfgs 0).N) (Proc.tc.devRef main_call0_v23_2)
      = (dats m 0 c).arrAt 6 cfg0.N :=
    withArrays_arr (cfgs 0).spec launch0.win.arr_inj c (V0 m c) (fun w => (dats m 0 c).arrAt w (cfgs 0).N) 6
  rw [h]
  rfl

/-- The third result. -/
theorem loss_final (c : Dev nD) (hx : Finite (s := S4096x32) (m ((c : Thread nD τ).loc main_arg0)))
    (hy : Finite (s := S4x512x32) (m ((c : Thread nD τ).loc main_arg1))) :
    afterTail₀ cfgs (dats m) 0 (V0 m) [hostOps1] c main_v0_2
      = Ref.refLoss (m ((c : Thread nD τ).loc main_arg0)) (m ((c : Thread nD τ).loc main_arg1)) := by
  have G := given_of hx hy
  have f1 := finite_left G.hx G.f0
  have f2 := finite_left f1 G.f1
  have f3 := finite_left f2 G.f2
  have f4 := finite_left f3 G.f3
  rw [tail_loss, arr_loss m c t0_0, out_loss m c t0_0 (given m c t0_0 hx hy), blk_0, V_main_arg0]
  simp only [Ref.refLoss, Ref.res4, Ref.res3, Ref.res2, Ref.res1, Ref.res0, refNext_eq]
  rw [← loss_eq f1 f2 f3 f4]
  funext j
  pointwise []

/-- The kernel's run from finite arguments: it ends with the reference's three results and its arguments unchanged. -/
theorem kernel_run (g : Dev nD → PrngReg)
    (hfin : ∀ c : Dev nD, Finite (s := S4096x32) (m ((c : Thread nD τ).loc main_arg0))
      ∧ Finite (s := S4x512x32) (m ((c : Thread nD τ).loc main_arg1))) :
    θ_run (defs (F := Ideal)) (onTc (τ := τ) (main (F := Ideal))) ⟨m, fun _ => 0, g⟩ fun r => ∀ c : Dev nD,
      r.2.mem ((c : Thread nD τ).loc main_v0_0)
        = Ref.refTotal (Ref.refLevels (m ((c : Thread nD τ).loc main_arg0)) (m ((c : Thread nD τ).loc main_arg1)))
      ∧ r.2.mem ((c : Thread nD τ).loc main_v0_1)
        = Ref.refLevels (m ((c : Thread nD τ).loc main_arg0)) (m ((c : Thread nD τ).loc main_arg1))
      ∧ r.2.mem ((c : Thread nD τ).loc main_v0_2)
        = Ref.refLoss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine θ_run_mono (run_main_quiescent m g) fun r hr c => ?_
  obtain ⟨hx, hy⟩ := hfin c
  refine ⟨?_, ?_, ?_, ?_, ?_⟩
  · exact (hr.1.out_eq c 4).trans (total_final m c hx hy)
  · exact (hr.1.out_eq c 5).trans (levels_final m c hx hy)
  · exact (hr.1.rest_eq c main_v0_2 (by decide)).trans (loss_final m c hx hy)
  · exact (hr.1.in_eq c 0 rfl).trans (V_main_arg0 m c)
  · exact (hr.1.rest_eq c main_arg1 (by decide)).trans (W_main_arg1 m (dats m) c)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import proofs.«01_k».proof.Proof.KernelEnd
public import Idealize.ShloMosaic.Adequacy
public import Idealize.ShloMosaic.Init

@[expose] public section

noncomputable section

namespace Cert.Proof

open Idealize.ShloMosaic Idealize.SL.Sem

/-- The reference runs from any memory, leaves its arguments as they were, and every counter at zero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  θ_run_mono (Ref.run m g) fun _ hr => ⟨fun c => (hr.1 c).2.2.2, hr.2⟩

/-- From finite arguments, the kernel and the reference end with equal results, all three. -/
theorem results_agree : Cert.algebraic_KernelIdeal_ReferenceIdeal_pre_all_finite
    (hKernelIdeal := Cert.KernelIdeal.Gen.facts) (hReferenceIdeal := Cert.ReferenceIdeal.Gen.facts)
    (hPre_all_finite := Cert.Pre_all_finite.Gen.facts) := by
  intro m g m' g' hpre hagree
  refine ⟨_, _, _, kernel_run m g fun c => finite_of_pre (hpre c), θ_run_mono (Ref.run m' g') fun r hr c => ?_⟩
  have h := hr.1 c
  rw [(hagree c).1, (hagree c).2] at h ⊢
  exact h

theorem claim : Cert.Claim := ⟨Cert.Kernel.Gen.facts, Cert.KernelIdeal.Gen.facts, Cert.ReferenceIdeal.Gen.facts, Cert.Pre_all_finite.Gen.facts,
  fun m ρ _ => Cert.Kernel.Gen.frame m ρ, fun m ρ _ => Cert.KernelIdeal.Gen.frame m ρ,
  fun m ρ _ => Cert.KernelIdeal.Gen.frame m ρ, fun m g _ => reference_quiescent m g,
  fun m g _ => reference_quiescent m g, trivial, results_agree⟩

end Cert.Proof

end
